-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 4096]⟩ ⟨2, ![16384, 4096]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.blockN ⟨2, ![16384, 1024]⟩ ⟨2, ![16384, 4096]⟩ (Layout.meshBlock [2, 4, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S16384x1024 : Shape := ⟨2, ![16384, 1024]⟩
abbrev S3x4096x1024 : Shape := ⟨3, ![3, 4096, 1024]⟩
abbrev S2x1024x1024 : Shape := ⟨3, ![2, 1024, 1024]⟩
abbrev S1024x1024 : Shape := ⟨2, ![1024, 1024]⟩
abbrev S_ : Shape := ⟨0, ![]⟩
abbrev S2 : Shape := ⟨1, ![2]⟩
abbrev S3x4 : Shape := ⟨2, ![3, 4]⟩
abbrev S4096x1024 : Shape := ⟨2, ![4096, 1024]⟩
abbrev S1 : Shape := ⟨1, ![1]⟩
abbrev S1x1024x1024 : Shape := ⟨3, ![1, 1024, 1024]⟩
abbrev S1x1 : Shape := ⟨2, ![1, 1]⟩

abbrev nBuf : Space → Nat
  | .hbm => 3
  | .vmem => 4
  | .smem => 0
  | _ => 0

abbrev bufTy : (tb : Table) → Fin (tcTables nBuf tb) → BufTy
  | .hbm, ⟨0, _⟩ => ⟨S4096x4096, .f32⟩
  | .hbm, ⟨1, _⟩ => ⟨S16384x1024, .f32⟩
  | .hbm, ⟨2, _⟩ => ⟨S3x4096x1024, .bf16⟩
  | .local _ .vmem, ⟨0, _⟩ => ⟨S3x4096x1024, .bf16⟩
  | .local _ .vmem, ⟨1, _⟩ => ⟨S2x1024x1024, .f32⟩
  | .local _ .vmem, ⟨2, _⟩ => ⟨S1024x1024, .bf16⟩
  | .local _ .vmem, ⟨3, _⟩ => ⟨S2x1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_v1_0 : Ref sig .tc := ⟨.hbm, 1, rfl⟩
abbrev main_v1_1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_9 : BitVec 32 := 16#32
  let v21 : BitVec 32 := Scalar.muli v2 c16_i32_9
  let v22 : BitVec 32 := Scalar.addi c0_i32_10 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v10 : BitVec 32 := Scalar.addi v5 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c4_i32_11 : BitVec 32 := 4#32
  let v23 : BitVec 32 := Scalar.muli v20 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v25 : BitVec 32 := Scalar.muli v8 c1_i32_12
  let v26 : BitVec 32 := Scalar.addi v24 v25
  v26.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let v27 : BitVec 32 := Scalar.addi v5 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c4_i32_23 : BitVec 32 := 4#32
  let v40 : BitVec 32 := Scalar.muli v37 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v42 : BitVec 32 := Scalar.muli v8 c1_i32_24
  let v43 : BitVec 32 := Scalar.addi v41 v42
  v43.toNat
def k0_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v55 : BitVec 32 := Scalar.muli v2 c16_i32_32
  let v56 : BitVec 32 := Scalar.addi c0_i32_33 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v44 : BitVec 32 := Scalar.addi v5 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c4_i32_34 : BitVec 32 := 4#32
  let v57 : BitVec 32 := Scalar.muli v54 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v59 : BitVec 32 := Scalar.muli v8 c1_i32_35
  let v60 : BitVec 32 := Scalar.addi v58 v59
  v60.toNat
def k0_off1 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4096_i32 : BitVec 32 := 4096#32
  let v62 : BitVec 32 := Scalar.muli v5 c4096_i32
  let c0_i32_36 : BitVec 32 := 0#32
  ![v62.toNat, 0]
def k0_off2 (d0 : Dev nD) : Fin 2 → Nat :=
  let c0_i32_37 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32 : BitVec 32 := 1024#32
  let v61 : BitVec 32 := Scalar.muli v5 c1024_i32
  ![0, v61.toNat]
def k0_off3 (d0 : Dev nD) (c1_i32_38 : BitVec 32) : Fin 2 → Nat :=
  let c0_i32_50 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v65 : BitVec 32 := Scalar.addi v5 c1_i32_38
  let c4_i32_39 : BitVec 32 := 4#32
  let c0_i32_40 : BitVec 32 := 0#32
  let v66 : BitVec 1 := Scalar.cmpi .eq c4_i32_39 c0_i32_40
  let c1_i32_41 : BitVec 32 := 1#32
  let v67 : BitVec 32 := Scalar.select v66 c1_i32_41 c4_i32_39
  let v68 : BitVec 32 := Scalar.remsi v65 v67
  let c0_i32_43 : BitVec 32 := 0#32
  let v70 : BitVec 1 := Scalar.cmpi .slt v68 c0_i32_43
  let c0_i32_44 : BitVec 32 := 0#32
  let v71 : BitVec 1 := Scalar.cmpi .slt v67 c0_i32_44
  let v72 : BitVec 1 := Scalar.xori v70 v71
  let c0_i32_42 : BitVec 32 := 0#32
  let v69 : BitVec 1 := Scalar.cmpi .ne v68 c0_i32_42
  let v73 : BitVec 1 := Scalar.andi v72 v69
  let v74 : BitVec 32 := Scalar.addi v68 v67
  let v75 : BitVec 32 := Scalar.select v73 v74 v68
  let c1024_i32_45 : BitVec 32 := 1024#32
  let v76 : BitVec 32 := Scalar.muli v75 c1024_i32_45
  ![0, v76.toNat]
def k0_dev4 (d0 : Dev nD) : Nat :=
  let c0_i32_102 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_101 : BitVec 32 := 16#32
  let v138 : BitVec 32 := Scalar.muli v2 c16_i32_101
  let v139 : BitVec 32 := Scalar.addi c0_i32_102 v138
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_65 : BitVec 32 := 1#32
  let v99 : BitVec 32 := Scalar.addi v5 c1_i32_65
  let c4_i32_66 : BitVec 32 := 4#32
  let c0_i32_67 : BitVec 32 := 0#32
  let v100 : BitVec 1 := Scalar.cmpi .eq c4_i32_66 c0_i32_67
  let c1_i32_68 : BitVec 32 := 1#32
  let v101 : BitVec 32 := Scalar.select v100 c1_i32_68 c4_i32_66
  let v102 : BitVec 32 := Scalar.remsi v99 v101
  let c0_i32_70 : BitVec 32 := 0#32
  let v104 : BitVec 1 := Scalar.cmpi .slt v102 c0_i32_70
  let c0_i32_71 : BitVec 32 := 0#32
  let v105 : BitVec 1 := Scalar.cmpi .slt v101 c0_i32_71
  let v106 : BitVec 1 := Scalar.xori v104 v105
  let c0_i32_69 : BitVec 32 := 0#32
  let v103 : BitVec 1 := Scalar.cmpi .ne v102 c0_i32_69
  let v107 : BitVec 1 := Scalar.andi v106 v103
  let v108 : BitVec 32 := Scalar.addi v102 v101
  let v109 : BitVec 32 := Scalar.select v107 v108 v102
  let c4_i32_103 : BitVec 32 := 4#32
  let v140 : BitVec 32 := Scalar.muli v109 c4_i32_103
  let v141 : BitVec 32 := Scalar.addi v139 v140
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v142 : BitVec 32 := Scalar.muli v8 c1_i32_104
  let v143 : BitVec 32 := Scalar.addi v141 v142
  v143.toNat
def k0_off4 (d0 : Dev nD) (c1_i32_126 : BitVec 32) : Fin 2 → Nat :=
  let c1024_i32_138 : BitVec 32 := 1024#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v174 : BitVec 32 := Scalar.addi v5 c1_i32_126
  let c4_i32_127 : BitVec 32 := 4#32
  let c0_i32_128 : BitVec 32 := 0#32
  let v175 : BitVec 1 := Scalar.cmpi .eq c4_i32_127 c0_i32_128
  let c1_i32_129 : BitVec 32 := 1#32
  let v176 : BitVec 32 := Scalar.select v175 c1_i32_129 c4_i32_127
  let v177 : BitVec 32 := Scalar.remsi v174 v176
  let c0_i32_131 : BitVec 32 := 0#32
  let v179 : BitVec 1 := Scalar.cmpi .slt v177 c0_i32_131
  let c0_i32_132 : BitVec 32 := 0#32
  let v180 : BitVec 1 := Scalar.cmpi .slt v176 c0_i32_132
  let v181 : BitVec 1 := Scalar.xori v179 v180
  let c0_i32_130 : BitVec 32 := 0#32
  let v178 : BitVec 1 := Scalar.cmpi .ne v177 c0_i32_130
  let v182 : BitVec 1 := Scalar.andi v181 v178
  let v183 : BitVec 32 := Scalar.addi v177 v176
  let v184 : BitVec 32 := Scalar.select v182 v183 v177
  let c1024_i32_133 : BitVec 32 := 1024#32
  let v185 : BitVec 32 := Scalar.muli v184 c1024_i32_133
  ![1024, v185.toNat]
def k0_dev5 (d0 : Dev nD) : Nat :=
  let c0_i32_146 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_145 : BitVec 32 := 16#32
  let v191 : BitVec 32 := Scalar.muli v2 c16_i32_145
  let v192 : BitVec 32 := Scalar.addi c0_i32_146 v191
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_109 : BitVec 32 := 2#32
  let v152 : BitVec 32 := Scalar.addi v5 c2_i32_109
  let c4_i32_110 : BitVec 32 := 4#32
  let c0_i32_111 : BitVec 32 := 0#32
  let v153 : BitVec 1 := Scalar.cmpi .eq c4_i32_110 c0_i32_111
  let c1_i32_112 : BitVec 32 := 1#32
  let v154 : BitVec 32 := Scalar.select v153 c1_i32_112 c4_i32_110
  let v155 : BitVec 32 := Scalar.remsi v152 v154
  let c0_i32_114 : BitVec 32 := 0#32
  let v157 : BitVec 1 := Scalar.cmpi .slt v155 c0_i32_114
  let c0_i32_115 : BitVec 32 := 0#32
  let v158 : BitVec 1 := Scalar.cmpi .slt v154 c0_i32_115
  let v159 : BitVec 1 := Scalar.xori v157 v158
  let c0_i32_113 : BitVec 32 := 0#32
  let v156 : BitVec 1 := Scalar.cmpi .ne v155 c0_i32_113
  let v160 : BitVec 1 := Scalar.andi v159 v156
  let v161 : BitVec 32 := Scalar.addi v155 v154
  let v162 : BitVec 32 := Scalar.select v160 v161 v155
  let c4_i32_147 : BitVec 32 := 4#32
  let v193 : BitVec 32 := Scalar.muli v162 c4_i32_147
  let v194 : BitVec 32 := Scalar.addi v192 v193
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_148 : BitVec 32 := 1#32
  let v195 : BitVec 32 := Scalar.muli v8 c1_i32_148
  let v196 : BitVec 32 := Scalar.addi v194 v195
  v196.toNat
def k0_dev6 (d0 : Dev nD) : Nat :=
  let c0_i32_190 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_189 : BitVec 32 := 16#32
  let v244 : BitVec 32 := Scalar.muli v2 c16_i32_189
  let v245 : BitVec 32 := Scalar.addi c0_i32_190 v244
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_153 : BitVec 32 := 3#32
  let v205 : BitVec 32 := Scalar.addi v5 c3_i32_153
  let c4_i32_154 : BitVec 32 := 4#32
  let c0_i32_155 : BitVec 32 := 0#32
  let v206 : BitVec 1 := Scalar.cmpi .eq c4_i32_154 c0_i32_155
  let c1_i32_156 : BitVec 32 := 1#32
  let v207 : BitVec 32 := Scalar.select v206 c1_i32_156 c4_i32_154
  let v208 : BitVec 32 := Scalar.remsi v205 v207
  let c0_i32_158 : BitVec 32 := 0#32
  let v210 : BitVec 1 := Scalar.cmpi .slt v208 c0_i32_158
  let c0_i32_159 : BitVec 32 := 0#32
  let v211 : BitVec 1 := Scalar.cmpi .slt v207 c0_i32_159
  let v212 : BitVec 1 := Scalar.xori v210 v211
  let c0_i32_157 : BitVec 32 := 0#32
  let v209 : BitVec 1 := Scalar.cmpi .ne v208 c0_i32_157
  let v213 : BitVec 1 := Scalar.andi v212 v209
  let v214 : BitVec 32 := Scalar.addi v208 v207
  let v215 : BitVec 32 := Scalar.select v213 v214 v208
  let c4_i32_191 : BitVec 32 := 4#32
  let v246 : BitVec 32 := Scalar.muli v215 c4_i32_191
  let v247 : BitVec 32 := Scalar.addi v245 v246
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_192 : BitVec 32 := 1#32
  let v248 : BitVec 32 := Scalar.muli v8 c1_i32_192
  let v249 : BitVec 32 := Scalar.addi v247 v248
  v249.toNat
def k0_dev7 (d0 : Dev nD) : Nat :=
  let c0_i32_234 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_233 : BitVec 32 := 16#32
  let v297 : BitVec 32 := Scalar.muli v2 c16_i32_233
  let v298 : BitVec 32 := Scalar.addi c0_i32_234 v297
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_197 : BitVec 32 := 1#32
  let v258 : BitVec 32 := Scalar.addi v5 c1_i32_197
  let c4_i32_198 : BitVec 32 := 4#32
  let c0_i32_199 : BitVec 32 := 0#32
  let v259 : BitVec 1 := Scalar.cmpi .eq c4_i32_198 c0_i32_199
  let c1_i32_200 : BitVec 32 := 1#32
  let v260 : BitVec 32 := Scalar.select v259 c1_i32_200 c4_i32_198
  let v261 : BitVec 32 := Scalar.remsi v258 v260
  let c0_i32_202 : BitVec 32 := 0#32
  let v263 : BitVec 1 := Scalar.cmpi .slt v261 c0_i32_202
  let c0_i32_203 : BitVec 32 := 0#32
  let v264 : BitVec 1 := Scalar.cmpi .slt v260 c0_i32_203
  let v265 : BitVec 1 := Scalar.xori v263 v264
  let c0_i32_201 : BitVec 32 := 0#32
  let v262 : BitVec 1 := Scalar.cmpi .ne v261 c0_i32_201
  let v266 : BitVec 1 := Scalar.andi v265 v262
  let v267 : BitVec 32 := Scalar.addi v261 v260
  let v268 : BitVec 32 := Scalar.select v266 v267 v261
  let c4_i32_235 : BitVec 32 := 4#32
  let v299 : BitVec 32 := Scalar.muli v268 c4_i32_235
  let v300 : BitVec 32 := Scalar.addi v298 v299
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v301 : BitVec 32 := Scalar.muli v8 c1_i32_236
  let v302 : BitVec 32 := Scalar.addi v300 v301
  v302.toNat
def k0_off5 (d0 : Dev nD) (c1_i32_259 : BitVec 32) : Fin 2 → Nat :=
  let c2048_i32 : BitVec 32 := 2048#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v333 : BitVec 32 := Scalar.addi v5 c1_i32_259
  let c4_i32_260 : BitVec 32 := 4#32
  let c0_i32_261 : BitVec 32 := 0#32
  let v334 : BitVec 1 := Scalar.cmpi .eq c4_i32_260 c0_i32_261
  let c1_i32_262 : BitVec 32 := 1#32
  let v335 : BitVec 32 := Scalar.select v334 c1_i32_262 c4_i32_260
  let v336 : BitVec 32 := Scalar.remsi v333 v335
  let c0_i32_264 : BitVec 32 := 0#32
  let v338 : BitVec 1 := Scalar.cmpi .slt v336 c0_i32_264
  let c0_i32_265 : BitVec 32 := 0#32
  let v339 : BitVec 1 := Scalar.cmpi .slt v335 c0_i32_265
  let v340 : BitVec 1 := Scalar.xori v338 v339
  let c0_i32_263 : BitVec 32 := 0#32
  let v337 : BitVec 1 := Scalar.cmpi .ne v336 c0_i32_263
  let v341 : BitVec 1 := Scalar.andi v340 v337
  let v342 : BitVec 32 := Scalar.addi v336 v335
  let v343 : BitVec 32 := Scalar.select v341 v342 v336
  let c1024_i32_266 : BitVec 32 := 1024#32
  let v344 : BitVec 32 := Scalar.muli v343 c1024_i32_266
  ![2048, v344.toNat]
def k0_dev8 (d0 : Dev nD) : Nat :=
  let c0_i32_278 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_277 : BitVec 32 := 16#32
  let v350 : BitVec 32 := Scalar.muli v2 c16_i32_277
  let v351 : BitVec 32 := Scalar.addi c0_i32_278 v350
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_241 : BitVec 32 := 2#32
  let v311 : BitVec 32 := Scalar.addi v5 c2_i32_241
  let c4_i32_242 : BitVec 32 := 4#32
  let c0_i32_243 : BitVec 32 := 0#32
  let v312 : BitVec 1 := Scalar.cmpi .eq c4_i32_242 c0_i32_243
  let c1_i32_244 : BitVec 32 := 1#32
  let v313 : BitVec 32 := Scalar.select v312 c1_i32_244 c4_i32_242
  let v314 : BitVec 32 := Scalar.remsi v311 v313
  let c0_i32_246 : BitVec 32 := 0#32
  let v316 : BitVec 1 := Scalar.cmpi .slt v314 c0_i32_246
  let c0_i32_247 : BitVec 32 := 0#32
  let v317 : BitVec 1 := Scalar.cmpi .slt v313 c0_i32_247
  let v318 : BitVec 1 := Scalar.xori v316 v317
  let c0_i32_245 : BitVec 32 := 0#32
  let v315 : BitVec 1 := Scalar.cmpi .ne v314 c0_i32_245
  let v319 : BitVec 1 := Scalar.andi v318 v315
  let v320 : BitVec 32 := Scalar.addi v314 v313
  let v321 : BitVec 32 := Scalar.select v319 v320 v314
  let c4_i32_279 : BitVec 32 := 4#32
  let v352 : BitVec 32 := Scalar.muli v321 c4_i32_279
  let v353 : BitVec 32 := Scalar.addi v351 v352
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_280 : BitVec 32 := 1#32
  let v354 : BitVec 32 := Scalar.muli v8 c1_i32_280
  let v355 : BitVec 32 := Scalar.addi v353 v354
  v355.toNat
def k0_dev9 (d0 : Dev nD) : Nat :=
  let c0_i32_323 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_322 : BitVec 32 := 16#32
  let v403 : BitVec 32 := Scalar.muli v2 c16_i32_322
  let v404 : BitVec 32 := Scalar.addi c0_i32_323 v403
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_285 : BitVec 32 := 3#32
  let v364 : BitVec 32 := Scalar.addi v5 c3_i32_285
  let c4_i32_286 : BitVec 32 := 4#32
  let c0_i32_287 : BitVec 32 := 0#32
  let v365 : BitVec 1 := Scalar.cmpi .eq c4_i32_286 c0_i32_287
  let c1_i32_288 : BitVec 32 := 1#32
  let v366 : BitVec 32 := Scalar.select v365 c1_i32_288 c4_i32_286
  let v367 : BitVec 32 := Scalar.remsi v364 v366
  let c0_i32_290 : BitVec 32 := 0#32
  let v369 : BitVec 1 := Scalar.cmpi .slt v367 c0_i32_290
  let c0_i32_291 : BitVec 32 := 0#32
  let v370 : BitVec 1 := Scalar.cmpi .slt v366 c0_i32_291
  let v371 : BitVec 1 := Scalar.xori v369 v370
  let c0_i32_289 : BitVec 32 := 0#32
  let v368 : BitVec 1 := Scalar.cmpi .ne v367 c0_i32_289
  let v372 : BitVec 1 := Scalar.andi v371 v368
  let v373 : BitVec 32 := Scalar.addi v367 v366
  let v374 : BitVec 32 := Scalar.select v372 v373 v367
  let c4_i32_324 : BitVec 32 := 4#32
  let v405 : BitVec 32 := Scalar.muli v374 c4_i32_324
  let v406 : BitVec 32 := Scalar.addi v404 v405
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v407 : BitVec 32 := Scalar.muli v8 c1_i32_325
  let v408 : BitVec 32 := Scalar.addi v406 v407
  v408.toNat
def k0_dev10 (d0 : Dev nD) : Nat :=
  let c0_i32_367 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_366 : BitVec 32 := 16#32
  let v456 : BitVec 32 := Scalar.muli v2 c16_i32_366
  let v457 : BitVec 32 := Scalar.addi c0_i32_367 v456
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_330 : BitVec 32 := 1#32
  let v417 : BitVec 32 := Scalar.addi v5 c1_i32_330
  let c4_i32_331 : BitVec 32 := 4#32
  let c0_i32_332 : BitVec 32 := 0#32
  let v418 : BitVec 1 := Scalar.cmpi .eq c4_i32_331 c0_i32_332
  let c1_i32_333 : BitVec 32 := 1#32
  let v419 : BitVec 32 := Scalar.select v418 c1_i32_333 c4_i32_331
  let v420 : BitVec 32 := Scalar.remsi v417 v419
  let c0_i32_335 : BitVec 32 := 0#32
  let v422 : BitVec 1 := Scalar.cmpi .slt v420 c0_i32_335
  let c0_i32_336 : BitVec 32 := 0#32
  let v423 : BitVec 1 := Scalar.cmpi .slt v419 c0_i32_336
  let v424 : BitVec 1 := Scalar.xori v422 v423
  let c0_i32_334 : BitVec 32 := 0#32
  let v421 : BitVec 1 := Scalar.cmpi .ne v420 c0_i32_334
  let v425 : BitVec 1 := Scalar.andi v424 v421
  let v426 : BitVec 32 := Scalar.addi v420 v419
  let v427 : BitVec 32 := Scalar.select v425 v426 v420
  let c4_i32_368 : BitVec 32 := 4#32
  let v458 : BitVec 32 := Scalar.muli v427 c4_i32_368
  let v459 : BitVec 32 := Scalar.addi v457 v458
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_369 : BitVec 32 := 1#32
  let v460 : BitVec 32 := Scalar.muli v8 c1_i32_369
  let v461 : BitVec 32 := Scalar.addi v459 v460
  v461.toNat
def k0_off6 (d0 : Dev nD) (c1_i32_392 : BitVec 32) : Fin 2 → Nat :=
  let c3072_i32 : BitVec 32 := 3072#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v492 : BitVec 32 := Scalar.addi v5 c1_i32_392
  let c4_i32_393 : BitVec 32 := 4#32
  let c0_i32_394 : BitVec 32 := 0#32
  let v493 : BitVec 1 := Scalar.cmpi .eq c4_i32_393 c0_i32_394
  let c1_i32_395 : BitVec 32 := 1#32
  let v494 : BitVec 32 := Scalar.select v493 c1_i32_395 c4_i32_393
  let v495 : BitVec 32 := Scalar.remsi v492 v494
  let c0_i32_397 : BitVec 32 := 0#32
  let v497 : BitVec 1 := Scalar.cmpi .slt v495 c0_i32_397
  let c0_i32_398 : BitVec 32 := 0#32
  let v498 : BitVec 1 := Scalar.cmpi .slt v494 c0_i32_398
  let v499 : BitVec 1 := Scalar.xori v497 v498
  let c0_i32_396 : BitVec 32 := 0#32
  let v496 : BitVec 1 := Scalar.cmpi .ne v495 c0_i32_396
  let v500 : BitVec 1 := Scalar.andi v499 v496
  let v501 : BitVec 32 := Scalar.addi v495 v494
  let v502 : BitVec 32 := Scalar.select v500 v501 v495
  let c1024_i32_399 : BitVec 32 := 1024#32
  let v503 : BitVec 32 := Scalar.muli v502 c1024_i32_399
  ![3072, v503.toNat]
def k0_dev11 (d0 : Dev nD) : Nat :=
  let c0_i32_411 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_410 : BitVec 32 := 16#32
  let v509 : BitVec 32 := Scalar.muli v2 c16_i32_410
  let v510 : BitVec 32 := Scalar.addi c0_i32_411 v509
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_374 : BitVec 32 := 2#32
  let v470 : BitVec 32 := Scalar.addi v5 c2_i32_374
  let c4_i32_375 : BitVec 32 := 4#32
  let c0_i32_376 : BitVec 32 := 0#32
  let v471 : BitVec 1 := Scalar.cmpi .eq c4_i32_375 c0_i32_376
  let c1_i32_377 : BitVec 32 := 1#32
  let v472 : BitVec 32 := Scalar.select v471 c1_i32_377 c4_i32_375
  let v473 : BitVec 32 := Scalar.remsi v470 v472
  let c0_i32_379 : BitVec 32 := 0#32
  let v475 : BitVec 1 := Scalar.cmpi .slt v473 c0_i32_379
  let c0_i32_380 : BitVec 32 := 0#32
  let v476 : BitVec 1 := Scalar.cmpi .slt v472 c0_i32_380
  let v477 : BitVec 1 := Scalar.xori v475 v476
  let c0_i32_378 : BitVec 32 := 0#32
  let v474 : BitVec 1 := Scalar.cmpi .ne v473 c0_i32_378
  let v478 : BitVec 1 := Scalar.andi v477 v474
  let v479 : BitVec 32 := Scalar.addi v473 v472
  let v480 : BitVec 32 := Scalar.select v478 v479 v473
  let c4_i32_412 : BitVec 32 := 4#32
  let v511 : BitVec 32 := Scalar.muli v480 c4_i32_412
  let v512 : BitVec 32 := Scalar.addi v510 v511
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_413 : BitVec 32 := 1#32
  let v513 : BitVec 32 := Scalar.muli v8 c1_i32_413
  let v514 : BitVec 32 := Scalar.addi v512 v513
  v514.toNat
def k0_dev12 (d0 : Dev nD) : Nat :=
  let c0_i32_456 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_455 : BitVec 32 := 16#32
  let v562 : BitVec 32 := Scalar.muli v2 c16_i32_455
  let v563 : BitVec 32 := Scalar.addi c0_i32_456 v562
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_418 : BitVec 32 := 3#32
  let v523 : BitVec 32 := Scalar.addi v5 c3_i32_418
  let c4_i32_419 : BitVec 32 := 4#32
  let c0_i32_420 : BitVec 32 := 0#32
  let v524 : BitVec 1 := Scalar.cmpi .eq c4_i32_419 c0_i32_420
  let c1_i32_421 : BitVec 32 := 1#32
  let v525 : BitVec 32 := Scalar.select v524 c1_i32_421 c4_i32_419
  let v526 : BitVec 32 := Scalar.remsi v523 v525
  let c0_i32_423 : BitVec 32 := 0#32
  let v528 : BitVec 1 := Scalar.cmpi .slt v526 c0_i32_423
  let c0_i32_424 : BitVec 32 := 0#32
  let v529 : BitVec 1 := Scalar.cmpi .slt v525 c0_i32_424
  let v530 : BitVec 1 := Scalar.xori v528 v529
  let c0_i32_422 : BitVec 32 := 0#32
  let v527 : BitVec 1 := Scalar.cmpi .ne v526 c0_i32_422
  let v531 : BitVec 1 := Scalar.andi v530 v527
  let v532 : BitVec 32 := Scalar.addi v526 v525
  let v533 : BitVec 32 := Scalar.select v531 v532 v526
  let c4_i32_457 : BitVec 32 := 4#32
  let v564 : BitVec 32 := Scalar.muli v533 c4_i32_457
  let v565 : BitVec 32 := Scalar.addi v563 v564
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_458 : BitVec 32 := 1#32
  let v566 : BitVec 32 := Scalar.muli v8 c1_i32_458
  let v567 : BitVec 32 := Scalar.addi v565 v566
  v567.toNat
def k0_dev13 (d0 : Dev nD) : Nat :=
  let c0_i32_500 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_499 : BitVec 32 := 16#32
  let v615 : BitVec 32 := Scalar.muli v2 c16_i32_499
  let v616 : BitVec 32 := Scalar.addi c0_i32_500 v615
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_463 : BitVec 32 := 1#32
  let v576 : BitVec 32 := Scalar.addi v5 c1_i32_463
  let c4_i32_464 : BitVec 32 := 4#32
  let c0_i32_465 : BitVec 32 := 0#32
  let v577 : BitVec 1 := Scalar.cmpi .eq c4_i32_464 c0_i32_465
  let c1_i32_466 : BitVec 32 := 1#32
  let v578 : BitVec 32 := Scalar.select v577 c1_i32_466 c4_i32_464
  let v579 : BitVec 32 := Scalar.remsi v576 v578
  let c0_i32_468 : BitVec 32 := 0#32
  let v581 : BitVec 1 := Scalar.cmpi .slt v579 c0_i32_468
  let c0_i32_469 : BitVec 32 := 0#32
  let v582 : BitVec 1 := Scalar.cmpi .slt v578 c0_i32_469
  let v583 : BitVec 1 := Scalar.xori v581 v582
  let c0_i32_467 : BitVec 32 := 0#32
  let v580 : BitVec 1 := Scalar.cmpi .ne v579 c0_i32_467
  let v584 : BitVec 1 := Scalar.andi v583 v580
  let v585 : BitVec 32 := Scalar.addi v579 v578
  let v586 : BitVec 32 := Scalar.select v584 v585 v579
  let c4_i32_501 : BitVec 32 := 4#32
  let v617 : BitVec 32 := Scalar.muli v586 c4_i32_501
  let v618 : BitVec 32 := Scalar.addi v616 v617
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_502 : BitVec 32 := 1#32
  let v619 : BitVec 32 := Scalar.muli v8 c1_i32_502
  let v620 : BitVec 32 := Scalar.addi v618 v619
  v620.toNat
def k0_dev14 (d0 : Dev nD) : Nat :=
  let c0_i32_532 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_531 : BitVec 32 := 16#32
  let v651 : BitVec 32 := Scalar.muli v2 c16_i32_531
  let v652 : BitVec 32 := Scalar.addi c0_i32_532 v651
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_507 : BitVec 32 := 2#32
  let v629 : BitVec 32 := Scalar.addi v5 c2_i32_507
  let c4_i32_508 : BitVec 32 := 4#32
  let c0_i32_509 : BitVec 32 := 0#32
  let v630 : BitVec 1 := Scalar.cmpi .eq c4_i32_508 c0_i32_509
  let c1_i32_510 : BitVec 32 := 1#32
  let v631 : BitVec 32 := Scalar.select v630 c1_i32_510 c4_i32_508
  let v632 : BitVec 32 := Scalar.remsi v629 v631
  let c0_i32_512 : BitVec 32 := 0#32
  let v634 : BitVec 1 := Scalar.cmpi .slt v632 c0_i32_512
  let c0_i32_513 : BitVec 32 := 0#32
  let v635 : BitVec 1 := Scalar.cmpi .slt v631 c0_i32_513
  let v636 : BitVec 1 := Scalar.xori v634 v635
  let c0_i32_511 : BitVec 32 := 0#32
  let v633 : BitVec 1 := Scalar.cmpi .ne v632 c0_i32_511
  let v637 : BitVec 1 := Scalar.andi v636 v633
  let v638 : BitVec 32 := Scalar.addi v632 v631
  let v639 : BitVec 32 := Scalar.select v637 v638 v632
  let c4_i32_533 : BitVec 32 := 4#32
  let v653 : BitVec 32 := Scalar.muli v639 c4_i32_533
  let v654 : BitVec 32 := Scalar.addi v652 v653
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_534 : BitVec 32 := 1#32
  let v655 : BitVec 32 := Scalar.muli v8 c1_i32_534
  let v656 : BitVec 32 := Scalar.addi v654 v655
  v656.toNat
def k0_dev15 (d0 : Dev nD) : Nat :=
  let c0_i32_564 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_563 : BitVec 32 := 16#32
  let v687 : BitVec 32 := Scalar.muli v2 c16_i32_563
  let v688 : BitVec 32 := Scalar.addi c0_i32_564 v687
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_539 : BitVec 32 := 3#32
  let v665 : BitVec 32 := Scalar.addi v5 c3_i32_539
  let c4_i32_540 : BitVec 32 := 4#32
  let c0_i32_541 : BitVec 32 := 0#32
  let v666 : BitVec 1 := Scalar.cmpi .eq c4_i32_540 c0_i32_541
  let c1_i32_542 : BitVec 32 := 1#32
  let v667 : BitVec 32 := Scalar.select v666 c1_i32_542 c4_i32_540
  let v668 : BitVec 32 := Scalar.remsi v665 v667
  let c0_i32_544 : BitVec 32 := 0#32
  let v670 : BitVec 1 := Scalar.cmpi .slt v668 c0_i32_544
  let c0_i32_545 : BitVec 32 := 0#32
  let v671 : BitVec 1 := Scalar.cmpi .slt v667 c0_i32_545
  let v672 : BitVec 1 := Scalar.xori v670 v671
  let c0_i32_543 : BitVec 32 := 0#32
  let v669 : BitVec 1 := Scalar.cmpi .ne v668 c0_i32_543
  let v673 : BitVec 1 := Scalar.andi v672 v669
  let v674 : BitVec 32 := Scalar.addi v668 v667
  let v675 : BitVec 32 := Scalar.select v673 v674 v668
  let c4_i32_565 : BitVec 32 := 4#32
  let v689 : BitVec 32 := Scalar.muli v675 c4_i32_565
  let v690 : BitVec 32 := Scalar.addi v688 v689
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_566 : BitVec 32 := 1#32
  let v691 : BitVec 32 := Scalar.muli v8 c1_i32_566
  let v692 : BitVec 32 := Scalar.addi v690 v691
  v692.toNat
def k0_off7 (d0 : Dev nD) (c1_i32_571 : BitVec 32) (c0_i32_604 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v701 : BitVec 32 := Scalar.subi v5 c1_i32_571
  let c4_i32_572 : BitVec 32 := 4#32
  let c0_i32_573 : BitVec 32 := 0#32
  let v702 : BitVec 1 := Scalar.cmpi .eq c4_i32_572 c0_i32_573
  let c1_i32_574 : BitVec 32 := 1#32
  let v703 : BitVec 32 := Scalar.select v702 c1_i32_574 c4_i32_572
  let v704 : BitVec 32 := Scalar.remsi v701 v703
  let c0_i32_576 : BitVec 32 := 0#32
  let v706 : BitVec 1 := Scalar.cmpi .slt v704 c0_i32_576
  let c0_i32_577 : BitVec 32 := 0#32
  let v707 : BitVec 1 := Scalar.cmpi .slt v703 c0_i32_577
  let v708 : BitVec 1 := Scalar.xori v706 v707
  let c0_i32_575 : BitVec 32 := 0#32
  let v705 : BitVec 1 := Scalar.cmpi .ne v704 c0_i32_575
  let v709 : BitVec 1 := Scalar.andi v708 v705
  let v710 : BitVec 32 := Scalar.addi v704 v703
  let v711 : BitVec 32 := Scalar.select v709 v710 v704
  let c4096_i32_603 : BitVec 32 := 4096#32
  let v733 : BitVec 32 := Scalar.muli v711 c4096_i32_603
  let v734 : BitVec 32 := Scalar.addi v733 c0_i32_604
  let c0_i32_607 : BitVec 32 := 0#32
  ![v734.toNat, 0]
-- ==== ReferenceIdeal.lean ====
abbrev S16384x4096 : Shape := ⟨2, ![16384, 4096]⟩

abbrev nBuf : Space → Nat
  | .hbm => 1
  | .vmem => 0
  | .smem => 0
  | _ => 0

abbrev bufTy : (tb : Table) → Fin (tcTables nBuf tb) → BufTy
  | .hbm, ⟨0, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Ideal.Base.lean ====
/-
# The kernel's places and contents

The mesh is `x = 2, y = 4, z = 4`: device `c` sits at `y = c / 4 % 4`, and the exchange runs among the four devices that
differ in `y` alone. There are twelve remote copies per device, numbered here in the order the kernel starts them:
copy `i` goes to the device `i % 3 + 1` further along `y` and carries row chunk `i / 3` (1024 rows) of the sender's block.

This module states, for every copy `i` at once: which device it goes to, which chunk of the send and landing buffers it
uses, which semaphores it completes on, and what the buffers hold when everything has run.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueLayout
public import Idealize.ShloMosaic.Lib.Tactic

@[expose] public section

noncomputable section

namespace Cert.KernelIdeal.AllToAll

open Cert.KernelIdeal Cert.KernelIdeal.Gen
open Idealize.ShloMosaic
open Idealize.ShloMosaic.TcCoe
open Idealize.ShloMosaic.ValueIdx (ix2 ix3)

variable {F : FTy → Type} [FloatOps F]

/-! ## The devices along `y` -/

/-- The coordinate of device `c` along `y`. -/
def yOf (c : Dev nD) : ℕ := c.val / 4 % 4

theorem yOf_lt (c : Dev nD) : yOf c < 4 := Nat.mod_lt _ (by decide)

theorem peer_lt (c : Dev nD) (k : ℕ) : c.val / 16 * 16 + (c.val / 4 % 4 + k) % 4 * 4 + c.val % 4 < nD := by
  have h := c.isLt
  show _ < 32
  have h' : c.val < 32 := h
  omega

/-- The device `k` places after `c` along `y`, cyclically. -/
def peer (c : Dev nD) (k : ℕ) : Dev nD := ⟨c.val / 16 * 16 + (c.val / 4 % 4 + k) % 4 * 4 + c.val % 4, peer_lt c k⟩

theorem peer_peer (c : Dev nD) (k l : ℕ) : peer (peer c k) l = peer c (k + l) := by
  apply Fin.ext
  show (c.val / 16 * 16 + (c.val / 4 % 4 + k) % 4 * 4 + c.val % 4) / 16 * 16
      + ((c.val / 16 * 16 + (c.val / 4 % 4 + k) % 4 * 4 + c.val % 4) / 4 % 4 + l) % 4 * 4
      + (c.val / 16 * 16 + (c.val / 4 % 4 + k) % 4 * 4 + c.val % 4) % 4
    = c.val / 16 * 16 + (c.val / 4 % 4 + (k + l)) % 4 * 4 + c.val % 4
  omega

theorem peer_mod (c : Dev nD) {k l : ℕ} (h : k % 4 = l % 4) : peer c k = peer c l := by
  apply Fin.ext
  show c.val / 16 * 16 + (c.val / 4 % 4 + k) % 4 * 4 + c.val % 4 = c.val / 16 * 16 + (c.val / 4 % 4 + l) % 4 * 4 + c.val % 4
  omega

theorem peer_zero (c : Dev nD) : peer c 0 = c := by
  apply Fin.ext
  show c.val / 16 * 16 + (c.val / 4 % 4 + 0) % 4 * 4 + c.val % 4 = c.val
  omega

theorem peer_four (c : Dev nD) {k : ℕ} (h : k % 4 = 0) : peer c k = c := (peer_mod c (l := 0) h).trans (peer_zero c)

theorem yOf_peer (c : Dev nD) (k : ℕ) : yOf (peer c k) = (yOf c + k) % 4 := by
  show (c.val / 16 * 16 + (c.val / 4 % 4 + k) % 4 * 4 + c.val % 4) / 4 % 4 = (c.val / 4 % 4 + k) % 4
  omega

/-- Going `k` places on and `4 - k` back is no move: the devices `k` places on are a rearrangement of the devices. -/
def shift (k : Fin 4) : Dev nD ≃ Dev nD where
  toFun c := peer c k.val
  invFun c := peer c (4 - k.val)
  left_inv c := by
    show peer (peer c k.val) (4 - k.val) = c
    rw [peer_peer]; exact peer_four c (by omega)
  right_inv c := by
    show peer (peer c (4 - k.val)) k.val = c
    rw [peer_peer]; exact peer_four c (by omega)

/-! ## The copies' chunks and semaphores -/

/-- The rectangle of chunk `i`, in the send buffer and in the landing buffer alike: slot `i % 3`, rows from `1024 * (i / 3)`. -/
abbrev cOff (i : Fin 12) : Fin 3 → ℕ := ![i.val % 3, 1024 * (i.val / 3), 0]

theorem cOff_inb (i : Fin 12) : ∀ a, cOff i a + S1x1024x1024.size a ≤ S3x4096x1024.size a := by revert i; decide

/-- The rectangle of slot `s` of a two-slot buffer. -/
abbrev sOff (s : Fin 2) : Fin 3 → ℕ := ![s.val, 0, 0]

theorem sOff_inb (s : Fin 2) : ∀ a, sOff s a + S1x1024x1024.size a ≤ S2x1024x1024.size a := by revert s; decide

/-- A chunk of the send buffer. -/
abbrev vsM (off : Fin 3 → ℕ) (inb : ∀ a, off a + S1x1024x1024.size a ≤ S3x4096x1024.size a) : Memref sig .tc .vmem S1024x1024 .bf16 :=
  ((Memref.whole cc0_scratch0).slice (Rect.unit (s := S3x4096x1024) off S1x1024x1024.size inb) (fun _ => rfl)).squeeze S1024x1024 squeezes_S1x1024x1024_S1024x1024
/-- A chunk of the landing buffer. -/
abbrev rbM (off : Fin 3 → ℕ) (inb : ∀ a, off a + S1x1024x1024.size a ≤ S3x4096x1024.size a) : Memref sig .tc .hbm S1024x1024 .bf16 :=
  ((Memref.whole main_v1_1).slice (Rect.unit (s := S3x4096x1024) off S1x1024x1024.size inb) (fun _ => rfl)).squeeze S1024x1024 squeezes_S1x1024x1024_S1024x1024
/-- A slot of the buffer the kernel loads its own blocks into. -/
abbrev vaM (off : Fin 3 → ℕ) (inb : ∀ a, off a + S1x1024x1024.size a ≤ S2x1024x1024.size a) : Memref sig .tc .vmem S1024x1024 .f32 :=
  ((Memref.whole cc0_scratch1).slice (Rect.unit (s := S2x1024x1024) off S1x1024x1024.size inb) (fun _ => rfl)).squeeze S1024x1024 squeezes_S1x1024x1024_S1024x1024
/-- A slot of the buffer the kernel stores its results from. -/
abbrev voM (off : Fin 3 → ℕ) (inb : ∀ a, off a + S1x1024x1024.size a ≤ S2x1024x1024.size a) : Memref sig .tc .vmem S1024x1024 .f32 :=
  ((Memref.whole cc0_scratch3).slice (Rect.unit (s := S2x1024x1024) off S1x1024x1024.size inb) (fun _ => rfl)).squeeze S1024x1024 squeezes_S1x1024x1024_S1024x1024
/-- A 1024 by 1024 window of the argument. -/
abbrev xM (off : Fin 2 → ℕ) (inb : ∀ a, off a + S1024x1024.size a ≤ S4096x4096.size a) : Memref sig .tc .hbm S1024x1024 .f32 :=
  (Memref.whole main_arg0).slice (Rect.unit (s := S4096x4096) off S1024x1024.size inb) (fun _ => rfl)
/-- A 1024 by 1024 window of the result. -/
abbrev oM (off : Fin 2 → ℕ) (inb : ∀ a, off a + S1024x1024.size a ≤ S16384x1024.size a) : Memref sig .tc .hbm S1024x1024 .f32 :=
  (Memref.whole main_v1_0).slice (Rect.unit (s := S16384x1024) off S1024x1024.size inb) (fun _ => rfl)
/-- The columns of the argument that stay on the device. -/
abbrev xKeepM (off : Fin 2 → ℕ) (inb : ∀ a, off a + S4096x1024.size a ≤ S4096x4096.size a) : Memref sig .tc .hbm S4096x1024 .f32 :=
  (Memref.whole main_arg0).slice (Rect.unit (s := S4096x4096) off S4096x1024.size inb) (fun _ => rfl)
/-- The rows of the result that come from the device itself. -/
abbrev oKeepM (off : Fin 2 → ℕ) (inb : ∀ a, off a + S4096x1024.size a ≤ S16384x1024.size a) : Memref sig .tc .hbm S4096x1024 .f32 :=
  (Memref.whole main_v1_0).slice (Rect.unit (s := S16384x1024) off S4096x1024.size inb) (fun _ => rfl)
/-- The whole staging buffer of a received chunk. -/
abbrev vbM : Memref sig .tc .vmem S1024x1024 .bf16 := Memref.whole cc0_scratch2

abbrev vsC (i : Fin 12) : Memref sig .tc .vmem S1024x1024 .bf16 := vsM (cOff i) (cOff_inb i)
abbrev rbC (i : Fin 12) : Memref sig .tc .hbm S1024x1024 .bf16 := rbM (cOff i) (cOff_inb i)
abbrev vaC (s : Fin 2) : Memref sig .tc .vmem S1024x1024 .f32 := vaM (sOff s) (sOff_inb s)
abbrev voC (s : Fin 2) : Memref sig .tc .vmem S1024x1024 .f32 := voM (sOff s) (sOff_inb s)

/-- Copy `i` reads columns `1024 * yd ..` and rows `1024 * (i / 3) ..` of the argument, `yd` the receiver's coordinate. -/
abbrev xOff (c : Dev nD) (i : Fin 12) : Fin 2 → ℕ := ![1024 * (i.val / 3), 1024 * ((yOf c + i.val % 3 + 1) % 4)]
theorem xOff_inb (c : Dev nD) (i : Fin 12) : ∀ a, xOff c i a + S1024x1024.size a ≤ S4096x4096.size a :=
  Fin.forall_fin_two.mpr ⟨show 1024 * (i.val / 3) + 1024 ≤ 4096 by omega, show 1024 * ((yOf c + i.val % 3 + 1) % 4) + 1024 ≤ 4096 by omega⟩
/-- Received chunk `i` comes from the device `i % 3 + 1` places before: rows `4096 * ys + 1024 * (i / 3) ..` of the result. -/
abbrev oOff (c : Dev nD) (i : Fin 12) : Fin 2 → ℕ := ![4096 * ((yOf c + 3 - i.val % 3) % 4) + 1024 * (i.val / 3), 0]
theorem oOff_inb (c : Dev nD) (i : Fin 12) : ∀ a, oOff c i a + S1024x1024.size a ≤ S16384x1024.size a :=
  Fin.forall_fin_two.mpr ⟨show 4096 * ((yOf c + 3 - i.val % 3) % 4) + 1024 * (i.val / 3) + 1024 ≤ 16384 by omega, show 0 + 1024 ≤ 1024 by omega⟩
abbrev xKeepOff (c : Dev nD) : Fin 2 → ℕ := ![0, 1024 * yOf c]
theorem xKeepOff_inb (c : Dev nD) : ∀ a, xKeepOff c a + S4096x1024.size a ≤ S4096x4096.size a :=
  have h := yOf_lt c
  Fin.forall_fin_two.mpr ⟨show 0 + 4096 ≤ 4096 by omega, show 1024 * yOf c + 1024 ≤ 4096 by omega⟩
abbrev oKeepOff (c : Dev nD) : Fin 2 → ℕ := ![4096 * yOf c, 0]
theorem oKeepOff_inb (c : Dev nD) : ∀ a, oKeepOff c a + S4096x1024.size a ≤ S16384x1024.size a :=
  have h := yOf_lt c
  Fin.forall_fin_two.mpr ⟨show 4096 * yOf c + 4096 ≤ 16384 by omega, show 0 + 1024 ≤ 1024 by omega⟩

abbrev xC (c : Dev nD) (i : Fin 12) : Memref sig .tc .hbm S1024x1024 .f32 := xM (xOff c i) (xOff_inb c i)
abbrev oC (c : Dev nD) (i : Fin 12) : Memref sig .tc .hbm S1024x1024 .f32 := oM (oOff c i) (oOff_inb c i)
abbrev xKeep (c : Dev nD) : Memref sig .tc .hbm S4096x1024 .f32 := xKeepM (xKeepOff c) (xKeepOff_inb c)
abbrev oKeep (c : Dev nD) : Memref sig .tc .hbm S4096x1024 .f32 := oKeepM (oKeepOff c) (oKeepOff_inb c)

/-- The runtime's barrier semaphore. -/
abbrev barS : Sem sig := (SemArray.scalar (sig.barrier 0 rfl) : Sems sig S_).sem
/-- The semaphores of the device's own copies: keeping its own block; loading slot `s`; staging a received chunk; storing slot `s`. -/
abbrev keepS : DmaSem sig := (0 : Fin 30)
abbrev aS (s : Fin 2) : DmaSem sig := (⟨1 + s.val, by omega⟩ : Fin 30)
abbrev bS : DmaSem sig := (3 : Fin 30)
abbrev oS (s : Fin 2) : DmaSem sig := (⟨4 + s.val, by omega⟩ : Fin 30)
/-- Remote copy `i` completes on send semaphore `i` at the sender and on receive semaphore `i` at the receiver. -/
def sendS (i : Fin 12) : DmaSem sig := (⟨6 + (4 * (i.val % 3) + i.val / 3), by omega⟩ : Fin 30)
def recvS (i : Fin 12) : DmaSem sig := (⟨18 + (4 * (i.val % 3) + i.val / 3), by omega⟩ : Fin 30)

/-- The slot of the two-slot buffers that step `n` uses. -/
abbrev slot (n : ℕ) : Fin 2 := ⟨n % 2, Nat.mod_lt _ (by decide)⟩

/-! ## The kernel's device and offset words are these -/

theorem dev1_eq (c : Dev nD) : (⟨k0_dev1 c, k0_dev1_lt c⟩ : Dev nD) = peer c 1 := by revert c; decide +kernel
theorem dev2_eq (c : Dev nD) : (⟨k0_dev2 c, k0_dev2_lt c⟩ : Dev nD) = peer c 2 := by revert c; decide +kernel
theorem dev3_eq (c : Dev nD) : (⟨k0_dev3 c, k0_dev3_lt c⟩ : Dev nD) = peer c 3 := by revert c; decide +kernel

theorem off1_eq (c : Dev nD) : k0_off1 c = oKeepOff c := k0_off1_eq c
theorem off2_eq (c : Dev nD) : k0_off2 c = xKeepOff c := k0_off2_eq c

/-- The kernel's device word for remote copy `i`. -/
abbrev sendDev (i : Fin 12) : Dev nD → ℕ :=
  ![k0_dev4, k0_dev5, k0_dev6, k0_dev7, k0_dev8, k0_dev9, k0_dev10, k0_dev11, k0_dev12, k0_dev13, k0_dev14, k0_dev15] i

set_option maxRecDepth 65536 in
theorem sendDev_eq : ∀ (i : Fin 12) (c : Dev nD), sendDev i c = (peer c (i.val % 3 + 1)).val := by decide +kernel

/-- The kernel's offset word for the load of copy `i`. -/
abbrev loadOff (i : Fin 12) (c : Dev nD) : Fin 2 → ℕ :=
  (![k0_off3, k0_off4, k0_off5, k0_off6] (⟨i.val / 3, by omega⟩ : Fin 4) : Dev nD → BitVec 32 → Fin 2 → ℕ) c (BitVec.ofNat 32 (1 + i.val % 3))

set_option maxRecDepth 65536 in
theorem loadOff_eq : ∀ (i : Fin 12) (c : Dev nD), loadOff i c = xOff c i := by decide +kernel

/-- The kernel's offset word for the store of received chunk `i`. -/
abbrev storeOff (i : Fin 12) (c : Dev nD) : Fin 2 → ℕ := k0_off7 c (BitVec.ofNat 32 (1 + i.val % 3)) (BitVec.ofNat 32 (1024 * (i.val / 3)))

set_option maxRecDepth 65536 in
theorem storeOff_eq : ∀ (i : Fin 12) (c : Dev nD), storeOff i c = oOff c i := by decide +kernel

/-! ## Contents -/

variable (m : (ℓ : Loc nD τ sig) → Buf (Elt F) ℓ)

/-- The argument of device `c`. -/
def xv (c : Dev nD) : S4096x4096.Idx → Elt F .f32 := m ((c : Thread nD τ).loc main_arg0)

/-- An element narrowed. -/
abbrev narrow (v : Elt F .f32) : Elt F .bf16 := FloatOps.truncf .bf16 bitsLt_bf16_f32 v
/-- An element widened. -/
abbrev widen (v : Elt F .bf16) : Elt F .f32 := FloatOps.extf .f32 bitsLt_bf16_f32 v

theorem col_lt (y : ℕ) (q : Fin 1024) : 1024 * (y % 4) + q.val < 4096 := by omega

/-- Element `(r, q)` of column block `y` of device `c`'s argument. -/
def xAt (c : Dev nD) (y : ℕ) (r : Fin 4096) (q : Fin 1024) : Elt F .f32 := xv m c (ix2 r ⟨1024 * (y % 4) + q.val, col_lt y q⟩)

/-- The send buffer, filled: slot `j` holds the narrowed column block of the device `j + 1` places on. -/
def vsVal (c : Dev nD) : S3x4096x1024.Idx → Elt F .bf16 := fun x => narrow (xAt m c (yOf c + (x 0).val + 1) (x 1) (x 2))

/-- The landing buffer, filled: slot `j` holds device `c`'s narrowed column block of the device `j + 1` places before. -/
def rbVal (c : Dev nD) : S3x4096x1024.Idx → Elt F .bf16 := fun x => narrow (xAt m (peer c (3 - (x 0).val)) (yOf c) (x 1) (x 2))

theorem row_lt (r : Fin 16384) : r.val % 4096 < 4096 := by omega

/-- The result: row block `y` holds device `c`'s column block of the device at coordinate `y`, narrowed and widened again
    unless that device is `c` itself. -/
def oVal (c : Dev nD) : S16384x1024.Idx → Elt F .f32 := fun x =>
  if (x 0).val / 4096 = yOf c then xAt m c (yOf c) ⟨(x 0).val % 4096, row_lt (x 0)⟩ (x 1)
  else widen (narrow (xAt m (peer c ((x 0).val / 4096 + 4 - yOf c)) (yOf c) ⟨(x 0).val % 4096, row_lt (x 0)⟩ (x 1)))

/-- What copy `i` puts on its receiver is what the receiver's landing buffer is to hold there. -/
theorem rbVal_peer (c : Dev nD) (x : S3x4096x1024.Idx) : rbVal m (peer c ((x 0).val + 1)) x = vsVal m c x := by
  have h0 : (x 0).val < 3 := (x 0).isLt
  unfold rbVal vsVal
  rw [peer_peer, peer_four c (by omega), yOf_peer]
  unfold xAt
  congr 4
  omega

end Cert.KernelIdeal.AllToAll

end
-- ==== Proof.Ideal.Geometry.lean ====
/-
# Which elements the chunks, slots and windows cover

The chunks of the send buffer, of the landing buffer, the slots of the two-slot buffers and the windows of the result
are pairwise disjoint and cover their buffers. What a memref of one of them reads or writes is stated by coordinates.
-/
module

public import proofs.«01_k».proof.Proof.Ideal.Base
public import Idealize.ShloMosaic.Lib.Ring

@[expose] public section

noncomputable section

namespace Cert.KernelIdeal.AllToAll

open Cert.KernelIdeal Cert.KernelIdeal.Gen
open Idealize.ShloMosaic
open Idealize.ShloMosaic.TcCoe
open Idealize.ShloMosaic.ValueIdx (ix2 ix3)

/-! ## The elements of a memref -/

theorem mem_vs {off : Fin 3 → ℕ} {inb} {x : S3x4096x1024.Idx} :
    x ∈ (vsM off inb).view.set ↔ ∀ a, off a ≤ x a ∧ (x a).val < off a + S1x1024x1024.size a := by
  rw [Memref.set_view_squeeze]; exact (Finset.ext_iff.mp (View.set_slice_whole _ _) x).trans Rect.mem_set_unit
theorem mem_rb {off : Fin 3 → ℕ} {inb} {x : S3x4096x1024.Idx} :
    x ∈ (rbM off inb).view.set ↔ ∀ a, off a ≤ x a ∧ (x a).val < off a + S1x1024x1024.size a := by
  rw [Memref.set_view_squeeze]; exact (Finset.ext_iff.mp (View.set_slice_whole _ _) x).trans Rect.mem_set_unit
theorem mem_va {off : Fin 3 → ℕ} {inb} {x : S2x1024x1024.Idx} :
    x ∈ (vaM off inb).view.set ↔ ∀ a, off a ≤ x a ∧ (x a).val < off a + S1x1024x1024.size a := by
  rw [Memref.set_view_squeeze]; exact (Finset.ext_iff.mp (View.set_slice_whole _ _) x).trans Rect.mem_set_unit
theorem mem_vo {off : Fin 3 → ℕ} {inb} {x : S2x1024x1024.Idx} :
    x ∈ (voM off inb).view.set ↔ ∀ a, off a ≤ x a ∧ (x a).val < off a + S1x1024x1024.size a := by
  rw [Memref.set_view_squeeze]; exact (Finset.ext_iff.mp (View.set_slice_whole _ _) x).trans Rect.mem_set_unit
theorem mem_o {off : Fin 2 → ℕ} {inb} {x : S16384x1024.Idx} :
    x ∈ (oM off inb).view.set ↔ ∀ a, off a ≤ x a ∧ (x a).val < off a + S1024x1024.size a :=
  (Finset.ext_iff.mp (View.set_slice_whole _ _) x).trans Rect.mem_set_unit
theorem mem_oKeep {off : Fin 2 → ℕ} {inb} {x : S16384x1024.Idx} :
    x ∈ (oKeepM off inb).view.set ↔ ∀ a, off a ≤ x a ∧ (x a).val < off a + S4096x1024.size a :=
  (Finset.ext_iff.mp (View.set_slice_whole _ _) x).trans Rect.mem_set_unit

/-- Being in a box of three axes, axis by axis. -/
theorem forall_three {p : Fin 3 → Prop} : Iff (∀ a, p a) (p 0 ∧ p 1 ∧ p 2) :=
  ⟨fun h => ⟨h 0, h 1, h 2⟩, fun h a => match a with | ⟨0, _⟩ => h.1 | ⟨1, _⟩ => h.2.1 | ⟨2, _⟩ => h.2.2⟩

/-- The chunk that an element of the send or landing buffer lies in. -/
theorem in_chunk {i : Fin 12} {x : S3x4096x1024.Idx} :
    Iff (∀ a, cOff i a ≤ x a ∧ (x a).val < cOff i a + S1x1024x1024.size a) (i.val = 3 * ((x 1).val / 1024) + (x 0).val) := by
  rw [forall_three]
  have h0 : (x 0).val < 3 := (x 0).isLt
  have h1 : (x 1).val < 4096 := (x 1).isLt
  have h2 : (x 2).val < 1024 := (x 2).isLt
  have hi := i.isLt
  show Iff ((i.val % 3 ≤ (x 0).val ∧ (x 0).val < i.val % 3 + 1) ∧ (1024 * (i.val / 3) ≤ (x 1).val ∧ (x 1).val < 1024 * (i.val / 3) + 1024)
    ∧ (0 ≤ (x 2).val ∧ (x 2).val < 0 + 1024)) _
  omega

/-- The slot that an element of a two-slot buffer lies in. -/
theorem in_slot {s : Fin 2} {x : S2x1024x1024.Idx} :
    Iff (∀ a, sOff s a ≤ x a ∧ (x a).val < sOff s a + S1x1024x1024.size a) (s.val = (x 0).val) := by
  rw [forall_three]
  have h1 : (x 1).val < 1024 := (x 1).isLt
  have h2 : (x 2).val < 1024 := (x 2).isLt
  show Iff ((s.val ≤ (x 0).val ∧ (x 0).val < s.val + 1) ∧ (0 ≤ (x 1).val ∧ (x 1).val < 0 + 1024) ∧ (0 ≤ (x 2).val ∧ (x 2).val < 0 + 1024)) _
  omega

/-- The rows a window of the result covers. -/
theorem in_win {c : Dev nD} {i : Fin 12} {x : S16384x1024.Idx} :
    Iff (∀ a, oOff c i a ≤ x a ∧ (x a).val < oOff c i a + S1024x1024.size a)
      ((x 0).val / 4096 = (yOf c + 3 - i.val % 3) % 4 ∧ (x 0).val % 4096 / 1024 = i.val / 3) := by
  rw [Fin.forall_fin_two]
  have hi := i.isLt
  have h0 : (x 0).val < 16384 := (x 0).isLt
  have h1 : (x 1).val < 1024 := (x 1).isLt
  show Iff ((4096 * ((yOf c + 3 - i.val % 3) % 4) + 1024 * (i.val / 3) ≤ (x 0).val ∧ (x 0).val < 4096 * ((yOf c + 3 - i.val % 3) % 4) + 1024 * (i.val / 3) + 1024)
    ∧ (0 ≤ (x 1).val ∧ (x 1).val < 0 + 1024)) _
  omega

theorem in_keep {c : Dev nD} {x : S16384x1024.Idx} :
    Iff (∀ a, oKeepOff c a ≤ x a ∧ (x a).val < oKeepOff c a + S4096x1024.size a) ((x 0).val / 4096 = yOf c) := by
  rw [Fin.forall_fin_two]
  have h1 : (x 1).val < 1024 := (x 1).isLt
  show Iff ((4096 * yOf c ≤ (x 0).val ∧ (x 0).val < 4096 * yOf c + 4096) ∧ (0 ≤ (x 1).val ∧ (x 1).val < 0 + 1024)) _
  omega

theorem mem_vsC {i : Fin 12} {x : S3x4096x1024.Idx} : Iff (x ∈ (vsC i).view.set) (i.val = 3 * ((x 1).val / 1024) + (x 0).val) := mem_vs.trans in_chunk
theorem mem_rbC {i : Fin 12} {x : S3x4096x1024.Idx} : Iff (x ∈ (rbC i).view.set) (i.val = 3 * ((x 1).val / 1024) + (x 0).val) := mem_rb.trans in_chunk
theorem mem_vaC {s : Fin 2} {x : S2x1024x1024.Idx} : Iff (x ∈ (vaC s).view.set) (s.val = (x 0).val) := mem_va.trans in_slot
theorem mem_voC {s : Fin 2} {x : S2x1024x1024.Idx} : Iff (x ∈ (voC s).view.set) (s.val = (x 0).val) := mem_vo.trans in_slot
theorem mem_oC {c : Dev nD} {i : Fin 12} {x : S16384x1024.Idx} :
    Iff (x ∈ (oC c i).view.set) ((x 0).val / 4096 = (yOf c + 3 - i.val % 3) % 4 ∧ (x 0).val % 4096 / 1024 = i.val / 3) := mem_o.trans in_win
theorem mem_oK {c : Dev nD} {x : S16384x1024.Idx} : Iff (x ∈ (oKeep c).view.set) ((x 0).val / 4096 = yOf c) := mem_oKeep.trans in_keep

/-! ## Disjoint and covering -/

theorem vs_disj (i i' : Fin 12) (h : i ≠ i') : Disjoint (vsC i).view.set (vsC i').view.set :=
  Finset.disjoint_left.mpr fun _ hx hx' => h (Fin.ext ((mem_vsC.mp hx).trans (mem_vsC.mp hx').symm))
theorem rb_disj (i i' : Fin 12) (h : i ≠ i') : Disjoint (rbC i).view.set (rbC i').view.set :=
  Finset.disjoint_left.mpr fun _ hx hx' => h (Fin.ext ((mem_rbC.mp hx).trans (mem_rbC.mp hx').symm))
theorem va_disj (i i' : Fin 2) (h : i ≠ i') : Disjoint (vaC i).view.set (vaC i').view.set :=
  Finset.disjoint_left.mpr fun _ hx hx' => h (Fin.ext ((mem_vaC.mp hx).trans (mem_vaC.mp hx').symm))
theorem vo_disj (i i' : Fin 2) (h : i ≠ i') : Disjoint (voC i).view.set (voC i').view.set :=
  Finset.disjoint_left.mpr fun _ hx hx' => h (Fin.ext ((mem_voC.mp hx).trans (mem_voC.mp hx').symm))

theorem chunk_lt (x : S3x4096x1024.Idx) : 3 * ((x 1).val / 1024) + (x 0).val < 12 := by
  have h0 : (x 0).val < 3 := (x 0).isLt
  have h1 : (x 1).val < 4096 := (x 1).isLt
  omega

theorem vs_cover : Finset.biUnion (β := S3x4096x1024.Idx) Finset.univ (fun i : Fin 12 => (vsC i).view.set) = Finset.univ :=
  Finset.eq_univ_iff_forall.mpr fun x => Finset.mem_biUnion.mpr ⟨⟨_, chunk_lt x⟩, Finset.mem_univ _, mem_vsC.mpr rfl⟩
theorem rb_cover : Finset.biUnion (β := S3x4096x1024.Idx) Finset.univ (fun i : Fin 12 => (rbC i).view.set) = Finset.univ :=
  Finset.eq_univ_iff_forall.mpr fun x => Finset.mem_biUnion.mpr ⟨⟨_, chunk_lt x⟩, Finset.mem_univ _, mem_rbC.mpr rfl⟩
theorem va_cover : Finset.biUnion (β := S2x1024x1024.Idx) Finset.univ (fun i : Fin 2 => (vaC i).view.set) = Finset.univ :=
  Finset.eq_univ_iff_forall.mpr fun (x : S2x1024x1024.Idx) => Finset.mem_biUnion.mpr ⟨x 0, Finset.mem_univ _, mem_vaC.mpr rfl⟩
theorem vo_cover : Finset.biUnion (β := S2x1024x1024.Idx) Finset.univ (fun i : Fin 2 => (voC i).view.set) = Finset.univ :=
  Finset.eq_univ_iff_forall.mpr fun (x : S2x1024x1024.Idx) => Finset.mem_biUnion.mpr ⟨x 0, Finset.mem_univ _, mem_voC.mpr rfl⟩

theorem o_disj (c : Dev nD) (i i' : Fin 12) (h : i ≠ i') : Disjoint (oC c i).view.set (oC c i').view.set :=
  Finset.disjoint_left.mpr fun x hx hx' => h (Fin.ext (by
    have h1 := mem_oC.mp hx
    have h2 := mem_oC.mp hx'
    have hy := yOf_lt c
    have hi := i.isLt
    have hi' := i'.isLt
    omega))

/-- The window that a row of another device's block lies in. -/
def winOf (y r : ℕ) : ℕ := 3 * (r % 4096 / 1024) + (y + 3 - r / 4096) % 4

theorem winOf_spec {y r : ℕ} (hy : y < 4) (hr : r < 16384) (h : ¬ r / 4096 = y) :
    winOf y r < 12 ∧ r / 4096 = (y + 3 - winOf y r % 3) % 4 ∧ r % 4096 / 1024 = winOf y r / 3 := by
  unfold winOf
  have hk : r % 4096 / 1024 < 4 := by omega
  have hd : r / 4096 < 4 := by omega
  generalize r % 4096 / 1024 = k at hk ⊢
  generalize r / 4096 = d at hd h ⊢
  have hj : (y + 3 - d) % 4 < 3 := by omega
  have e1 : (3 * k + (y + 3 - d) % 4) % 3 = (y + 3 - d) % 4 := by omega
  have e2 : (3 * k + (y + 3 - d) % 4) / 3 = k := by omega
  rw [e1, e2]
  omega

/-- The rows that do not come from the device itself are the twelve windows'. -/
theorem o_cover (c : Dev nD) : Finset.biUnion (β := S16384x1024.Idx) Finset.univ (fun i : Fin 12 => (oC c i).view.set) = Finset.univ \ (oKeep c).view.set := by
  ext x
  rw [Finset.mem_biUnion, Finset.mem_sdiff, mem_oK]
  have hy := yOf_lt c
  have h0 : (x 0).val < 16384 := (x 0).isLt
  constructor
  · rintro ⟨i, -, hi⟩
    have h1 := mem_oC.mp hi
    have hi := i.isLt
    exact ⟨Finset.mem_univ _, by omega⟩
  · rintro ⟨-, hx⟩
    have hw := winOf_spec hy h0 hx
    exact ⟨⟨winOf (yOf c) (x 0).val, hw.1⟩, Finset.mem_univ _, mem_oC.mpr hw.2⟩

/-! ## The element a memref's coordinate names -/

/-- A coordinate of a squeezed rectangle, put back in the array. -/
theorem unit_squeeze_emb {n0 n1 n2 : ℕ} {off : Fin 3 → ℕ} {inb : ∀ a, off a + S1x1024x1024.size a ≤ (⟨3, ![n0, n1, n2]⟩ : Shape).size a}
    (h : S1024x1024.numel = S1x1024x1024.numel) (x : S1024x1024.Idx) (y : (⟨3, ![n0, n1, n2]⟩ : Shape).Idx)
    (h0 : (y 0).val = off 0) (h1 : (y 1).val = off 1 + (x 0).val) (h2 : (y 2).val = off 2 + (x 1).val) :
    (Rect.unit (s := (⟨3, ![n0, n1, n2]⟩ : Shape)) off S1x1024x1024.size inb).emb (Shape.reshapeEquiv h x) = y := by
  have e : Shape.reshapeEquiv h x = ix3 (⟨0, Nat.one_pos⟩ : Fin 1) (x 0) (x 1) :=
    (congrArg (Shape.reshapeEquiv h) (ValueIdx.eq_ix2 x)).trans (ValueIdx.reshapeEquiv_ix2_1ab (a := 1024) (b := 1024) h (x 0) (x 1))
  refine (congrArg _ e).trans ?_
  funext a
  apply Fin.ext
  match a with
  | ⟨0, _⟩ => show off 0 + 1 * 0 = (y 0).val; omega
  | ⟨1, _⟩ => show off 1 + 1 * (x 0).val = (y 1).val; omega
  | ⟨2, _⟩ => show off 2 + 1 * (x 1).val = (y 2).val; omega

theorem cRow_lt (i : Fin 12) (r : Fin 1024) : 1024 * (i.val / 3) + r.val < 4096 := by omega

/-- Element `(r, q)` of chunk `i`, in the buffer. -/
def cAt (i : Fin 12) (x : S1024x1024.Idx) : S3x4096x1024.Idx := ix3 ⟨i.val % 3, by omega⟩ ⟨1024 * (i.val / 3) + (x 0).val, cRow_lt i (x 0)⟩ (x 1)
/-- Element `(r, q)` of slot `s`, in the buffer. -/
def sAt (s : Fin 2) (x : S1024x1024.Idx) : S2x1024x1024.Idx := ix3 s (x 0) (x 1)

theorem vsC_emb (i : Fin 12) (x : S1024x1024.Idx) : (vsC i).view.emb x = cAt i x :=
  unit_squeeze_emb (n0 := 3) (n1 := 4096) (n2 := 1024) _ x (cAt i x) rfl rfl (show (x 1).val = 0 + (x 1).val by omega)
theorem rbC_emb (i : Fin 12) (x : S1024x1024.Idx) : (rbC i).view.emb x = cAt i x :=
  unit_squeeze_emb (n0 := 3) (n1 := 4096) (n2 := 1024) _ x (cAt i x) rfl rfl (show (x 1).val = 0 + (x 1).val by omega)
theorem vaC_emb (s : Fin 2) (x : S1024x1024.Idx) : (vaC s).view.emb x = sAt s x :=
  unit_squeeze_emb (n0 := 2) (n1 := 1024) (n2 := 1024) _ x (sAt s x) rfl (show (x 0).val = 0 + (x 0).val by omega) (show (x 1).val = 0 + (x 1).val by omega)
theorem voC_emb (s : Fin 2) (x : S1024x1024.Idx) : (voC s).view.emb x = sAt s x :=
  unit_squeeze_emb (n0 := 2) (n1 := 1024) (n2 := 1024) _ x (sAt s x) rfl (show (x 0).val = 0 + (x 0).val by omega) (show (x 1).val = 0 + (x 1).val by omega)

/-- Every element of a chunk is `cAt` of a coordinate. -/
theorem exists_of_mem {κ : Kind} {sp : Space} {s : Shape} {e : EltTy} (v : View sig κ sp s e) {i : v.ty.Idx} (h : i ∈ v.set) : ∃ x, v.emb x = i := by
  unfold View.set at h
  obtain ⟨x, -, hx⟩ := Finset.mem_map.mp h
  exact ⟨x, hx⟩

end Cert.KernelIdeal.AllToAll

end
-- ==== Proof.Ideal.Protocol.lean ====
/-
# The protocol of the exchange

Every device has a barrier cell, twelve send cells and twelve receive cells, each used for one round.

* The BARRIER cell of device `p` is raised by the three other devices of its `y` ring, one unit each, before any remote
  copy: duty `j` is paid by the device `j + 1` places on, and hands `p` the chunks `j, 3 + j, 6 + j, 9 + j` of THAT device's
  landing buffer: the chunks `p` will write there. `p` waits for all three units.
* The RECEIVE cell `i` of device `p` is raised by copy `i` of the device `i % 3 + 1` places before, when it has landed; it
  hands `p` chunk `i` of its own landing buffer, holding what `rbVal` says.
* The SEND cell `i` of device `p` is raised by `p`'s own copy `i`, when its source has been read; it hands `p` back
  chunk `i` of its send buffer, which holds what `vsVal` says.

A device owes the three units and the twelve landings from the start. Its barrier wait and its local waits come while it
still owes landings only, so receive cells lie above the barrier cells and those above everything else.
-/
module

public import proofs.«01_k».proof.Proof.Ideal.Base
public import proofs.«01_k».proof.Proof.Ideal.Geometry

@[expose] public section

noncomputable section

namespace Cert.KernelIdeal.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's part, the exchange's rounds, the local copies' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn upEmb := by unfold ER; infer_instance
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

abbrev barCell (c : Dev nD) : GSem nD τ sig := ((c : Thread nD τ), .reg barS)
abbrev sendCell (c : Dev nD) (i : Fin 12) : GSem nD τ sig := ((c : Thread nD τ), .dma (sendS i))
abbrev recvCell (c : Dev nD) (i : Fin 12) : GSem nD τ sig := ((c : Thread nD τ), .dma (recvS i))

/-- The credit of one chunk. -/
abbrev N : ℕ := (rbC 0).view.dmaCredit
theorem N_pos : 0 < N := View.dmaCredit_pos _ (by decide)

/-- The copy whose send semaphore lies `t` after the first, and whose receive semaphore lies `t` after the first. -/
def copyOf (t : ℕ) : Fin 12 := ⟨3 * (t % 4) + t / 4 % 3, by omega⟩

theorem copyOf_send (i : Fin 12) : copyOf ((sendS i).val - 6) = i := by revert i; decide
theorem copyOf_recv (i : Fin 12) : copyOf ((recvS i).val - 18) = i := by revert i; decide
theorem sendS_range (i : Fin 12) : 6 ≤ (sendS i).val ∧ (sendS i).val < 18 := by revert i; decide
theorem recvS_range (i : Fin 12) : 18 ≤ (recvS i).val := by revert i; decide

/-! ## The chunks, owned -/

/-- Device `c` owns chunk `i` of its send buffer, at contents `f`. -/
def vsPts (c : Dev nD) (i : Fin 12) (f : S3x4096x1024.Idx → Elt F .bf16) : sProp 𝕄 :=
  (vsC i).view.loc (c : Thread nD τ) ↦[(vsC i).view.set]{fullShare} f
/-- Chunk `i` of device `c`'s landing buffer, at contents `f`. -/
def rbPts (c : Dev nD) (i : Fin 12) (f : S3x4096x1024.Idx → Elt F .bf16) : sProp 𝕄 :=
  (rbC i).view.loc (c : Thread nD τ) ↦[(rbC i).view.set]{fullShare} f

omit [FloatOps F] in
instance vsPts_storable (c : Dev nD) (i) (f) : BI.Storable (upEmb : UEmb _ 𝕄) (vsPts (F := F) c i f) := by unfold vsPts; infer_instance
omit [FloatOps F] in
instance rbPts_storable (c : Dev nD) (i) (f) : BI.Storable (upEmb : UEmb _ 𝕄) (rbPts (F := F) c i f) := by unfold rbPts; infer_instance

/-! ## The schedule -/

/-- The copy of row chunk `k` that goes `j + 1` places on. -/
abbrev ck (k : Fin 4) (j : Fin 3) : Fin 12 := ⟨3 * k.val + j.val, by omega⟩

/-- What duty `j` of device `p`'s barrier cell hands over. -/
def barPay (p : Dev nD) (j : Fin 3) : sProp 𝕄 :=
  bigSep Finset.univ fun k : Fin 4 => iprop(∃ f, rbPts (peer p (j.val + 1)) (ck k j) f)

def ringRd : Rounds.Schedule (GSem nD τ sig) (Fin 3) 𝕄 where
  duties g r := if r = 0 ∧ g.1.2 = .tc then
      match g.2 with
      | .reg s => if s = barS then Finset.univ else ∅
      | .dma t => if 6 ≤ t.val then {0} else ∅
    else ∅
  unitless _ := False
  amount g _ _ := match g.2 with
    | .reg _ => 1
    | .dma _ => N
  payload g _ d := match g.2 with
    | .reg _ => barPay g.1.1 d
    | .dma t => if t.val < 18 then vsPts g.1.1 (copyOf (t.val - 6)) (vsVal m g.1.1) else rbPts g.1.1 (copyOf (t.val - 18)) (rbVal m g.1.1)
  amount_pos g _ _ _ := by
    rcases g with ⟨_, s | t⟩
    · exact Nat.one_pos
    · exact N_pos

instance ringRd_payload_storable (g : GSem nD τ sig) (r : ℕ) (d : Fin 3) :
    BI.Storable (upEmb : UEmb _ 𝕄) ((ringRd (F := F) m).payload g r d) := by
  rcases g with ⟨⟨p, _⟩, s | t⟩
  · show BI.Storable upEmb (barPay p d)
    unfold barPay; infer_instance
  · show BI.Storable upEmb (if t.val < 18 then vsPts p (copyOf (t.val - 6)) (vsVal m p) else rbPts p (copyOf (t.val - 18)) (rbVal m p))
    split <;> infer_instance

section Sched
variable (c : Dev nD) (i : Fin 12)

theorem duties_bar : (ringRd (F := F) m).duties (barCell c) 0 = Finset.univ := by
  dsimp only [ringRd]; rw [if_pos ⟨rfl, rfl⟩]; exact if_pos rfl
theorem duties_send : (ringRd (F := F) m).duties (sendCell c i) 0 = {0} := by
  dsimp only [ringRd]; rw [if_pos ⟨rfl, rfl⟩]; exact if_pos (sendS_range i).1
theorem duties_recv : (ringRd (F := F) m).duties (recvCell c i) 0 = {0} := by
  dsimp only [ringRd]; rw [if_pos ⟨rfl, rfl⟩]; exact if_pos (le_trans (by decide) (recvS_range i))
theorem duties_later (g : GSem nD τ sig) : ∀ r, 1 ≤ r → (ringRd (F := F) m).duties g r = ∅ :=
  fun r hr => if_neg fun h => absurd h.1 (by omega)

theorem amount_bar (d : Fin 3) : (ringRd (F := F) m).amount (barCell c) 0 d = 1 := rfl
theorem amount_send (d : Fin 3) : (ringRd (F := F) m).amount (sendCell c i) 0 d = N := rfl
theorem amount_recv (d : Fin 3) : (ringRd (F := F) m).amount (recvCell c i) 0 d = N := rfl

theorem expect_bar : (ringRd (F := F) m).expect (barCell c) 0 = 3 := by
  unfold Schedule.expect Schedule.amountOf
  rw [duties_bar, Finset.sum_congr rfl fun d _ => amount_bar m c d]; rfl
theorem expect_send : (ringRd (F := F) m).expect (sendCell c i) 0 = N := by
  unfold Schedule.expect Schedule.amountOf; rw [duties_send, Finset.sum_singleton, amount_send]
theorem expect_recv : (ringRd (F := F) m).expect (recvCell c i) 0 = N := by
  unfold Schedule.expect Schedule.amountOf; rw [duties_recv, Finset.sum_singleton, amount_recv]

theorem payload_bar (d : Fin 3) : (ringRd (F := F) m).payload (barCell c) 0 d = barPay c d := rfl
theorem payload_send (d : Fin 3) : (ringRd (F := F) m).payload (sendCell c i) 0 d = vsPts c i (vsVal m c) := by
  dsimp only [ringRd]; rw [if_pos (sendS_range i).2, copyOf_send]
theorem payload_recv (d : Fin 3) : (ringRd (F := F) m).payload (recvCell c i) 0 d = rbPts c i (rbVal m c) := by
  dsimp only [ringRd]; rw [if_neg (Nat.not_lt.mpr (recvS_range i)), copyOf_recv]

/-- What the barrier wait brings: the chunks of the three other devices that this device's copies write. -/
theorem rest_bar : bigSep ((ringRd (F := F) m).duties (barCell c) 0 \ ∅) (fun d => (ringRd (F := F) m).payload (barCell c) 0 d)
    = bigSep Finset.univ fun j : Fin 3 => barPay c j := by
  rw [Finset.sdiff_empty, duties_bar]; rfl
theorem rest_send : bigSep ((ringRd (F := F) m).duties (sendCell c i) 0 \ ∅) (fun d => (ringRd (F := F) m).payload (sendCell c i) 0 d)
    = vsPts c i (vsVal m c) := by
  rw [Finset.sdiff_empty, duties_send, bigSep_singleton, payload_send]
theorem rest_recv : bigSep ((ringRd (F := F) m).duties (recvCell c i) 0 \ ∅) (fun d => (ringRd (F := F) m).payload (recvCell c i) 0 d)
    = rbPts c i (rbVal m c) := by
  rw [Finset.sdiff_empty, duties_recv, bigSep_singleton, payload_recv]

end Sched

/-! ## What each core owes at launch; the levels -/

/-- The copies device `c` has still to start after the first `n`: their landings. -/
def owedR (c : Dev nD) (n : ℕ) : CellTallies nD τ sig Unit :=
  ∑ i : Fin 12 with n ≤ i.val, tallyAt (recvCell (peer c (i.val % 3 + 1)) i) () N

/-- One unit on the barrier cell of the device `k` places on. -/
abbrev owedB (c : Dev nD) (k : ℕ) : CellTallies nD τ sig Unit := tallyAt (barCell (peer c k)) () 1

def O₀ (c : Dev nD) : CellTallies nD τ sig Unit := owedR c 0 + owedB c 3 + owedB c 2 + owedB c 1

theorem owedR_step (c : Dev nD) (i : Fin 12) :
    owedR c i.val = owedR c (i.val + 1) + tallyAt (recvCell (peer c (i.val % 3 + 1)) i) () N := by
  unfold owedR
  rw [show (Finset.univ.filter fun j : Fin 12 => i.val ≤ j.val) = insert i (Finset.univ.filter fun j : Fin 12 => i.val + 1 ≤ j.val) by
      ext j; simp only [Finset.mem_filter, Finset.mem_univ, true_and, Finset.mem_insert, Fin.ext_iff]; omega,
    Finset.sum_insert (by simp), add_comm]

theorem owedR_end (c : Dev nD) : owedR c 12 = 0 := by
  unfold owedR
  rw [Finset.filter_false_of_mem (fun j _ => by have := j.isLt; omega), Finset.sum_empty]

theorem tallyAt_pos {g g' : GSem nD τ sig} {k : ℕ} {u : Unit} (h : 0 < (tallyAt g () k : CellTallies nD τ sig Unit) g' u) : g' = g := by
  rw [tallyAt_apply] at h
  by_contra hn
  rw [if_neg (fun h' => hn h'.1)] at h
  exact Nat.lt_irrefl 0 h

theorem owedR_pos {c : Dev nD} {n : ℕ} {g : GSem nD τ sig} {u : Unit} (h : 0 < owedR c n g u) : ∃ d i, g = recvCell d i := by
  obtain ⟨i, -, hi⟩ := Pipeline.sum_pos_exists h
  exact ⟨_, i, tallyAt_pos hi⟩

theorem O₀_pos {c : Dev nD} {g : GSem nD τ sig} {u : Unit} (h : 0 < O₀ c g u) : (∃ d i, g = recvCell d i) ∨ ∃ d, g = barCell d := by
  unfold O₀ at h
  rcases Pipeline.add_pos_cases h with h | h
  · rcases Pipeline.add_pos_cases h with h | h
    · rcases Pipeline.add_pos_cases h with h | h
      · exact .inl (owedR_pos h)
      · exact .inr ⟨_, tallyAt_pos h⟩
    · exact .inr ⟨_, tallyAt_pos h⟩
  · exact .inr ⟨_, tallyAt_pos h⟩

def L (g : GSem nD τ sig) : Finset Unit := if g.1.2 = .tc then {()} else ∅
/-- Barrier cells at 1, receive cells at 2, everything else at 0. -/
def lv (g : GSem nD τ sig) (_ : Unit) : ℕ := match g.2 with
  | .reg _ => 1
  | .dma t => if 18 ≤ t.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (d : Dev nD) (i : Fin 12) (u : Unit) : lv (recvCell d i) u = 2 := if_pos (recvS_range i)

/-- While it owes landings only, a device may wait on any cell of level at most 1. -/
theorem mayWait_low (c : Dev nD) (n : ℕ) (sm : SemLoc sig) (h : lv ((c : Thread nD τ), sm) () ≤ 1) :
    (levAts L lv : sProp 𝕄) ⊢ MayWait (c : Thread nD τ) sm () (owedR c n) :=
  MayOwe.of_cut (L := L) (lev := lv) 1 (fun p hp => by rw [Finset.mem_singleton.mp hp, L_tc]; exact Finset.mem_singleton_self _)
    (fun g u hg => by obtain ⟨d, i, rfl⟩ := owedR_pos hg; rw [L_tc]; exact Finset.mem_singleton_self _)
    (fun p hp => by rw [Finset.mem_singleton.mp hp]; exact h)
    (fun g u hg => by obtain ⟨d, i, rfl⟩ := owedR_pos hg; rw [lv_recv]; decide)

/-! ## The cells' invariants and marks, known to every device -/

/-- A device's cells: the barrier's, the send cells (`false`), the receive cells (`true`). -/
abbrev CK : Type := Option (Bool × Fin 12)
abbrev csem : CK → SemLoc sig
  | none => .reg barS
  | some (false, i) => .dma (sendS i)
  | some (true, i) => .dma (recvS i)
abbrev kcell (p : Dev nD × CK) : GSem nD τ sig := ((p.1 : Thread nD τ), csem p.2)

/-- The invariants of all devices' cells, allocated under the names `K`, that every cell is at round 0, and the levels. -/
def env (K : Dev nD × CK → ℕ) : sProp 𝕄 :=
  iprop((bigSep Finset.univ fun p : Dev nD × CK => cellInv ER (ringRd m) (K p) (kcell p))
    ∗ (bigSep Finset.univ fun p : Dev nD × CK => reached ER (kcell p) 0) ∗ levAts L lv)

instance env_persistent (K : Dev nD × CK → ℕ) : BI.Persistent (env (F := F) m K) := by unfold env; infer_instance

theorem env_inv (K : Dev nD × CK → ℕ) (p : Dev nD × CK) : env (F := F) m K ⊢ cellInv ER (ringRd m) (K p) (kcell p) := by
  have h : env (F := F) m K ⊢ bigSep Finset.univ fun p : Dev nD × CK => cellInv ER (ringRd m) (K p) (kcell p) := by
    unfold env; iintro ⟨H, -, -⟩; iexact H
  exact h.trans (bigSep_elim (Finset.mem_univ p))
theorem env_reached (K : Dev nD × CK → ℕ) (p : Dev nD × CK) : env (F := F) m K ⊢ reached ER (kcell p) 0 := by
  have h : env (F := F) m K ⊢ bigSep Finset.univ fun p : Dev nD × CK => reached ER (kcell p) 0 := by
    unfold env; iintro ⟨-, H, -⟩; iexact H
  exact h.trans (bigSep_elim (Finset.mem_univ p))
theorem env_lev (K : Dev nD × CK → ℕ) : env (F := F) m K ⊢ levAts L lv := by
  unfold env; iintro ⟨-, -, H⟩; iexact H

theorem env_mayWait (K : Dev nD × CK → ℕ) (c : Dev nD) (n : ℕ) (sm : SemLoc sig) (h : lv ((c : Thread nD τ), sm) () ≤ 1) :
    env (F := F) m K ⊢ MayWait (c : Thread nD τ) sm () (owedR c n) := by
  unfold env
  iintro ⟨-, -, H⟩
  iapply (mayWait_low c n sm h) $$ H

abbrev 𝒱₀ : Variants := Variants.none

end Cert.KernelIdeal.AllToAll

end
-- ==== Proof.Ideal.Contents.lean ====
/-
# What each copy and each store leaves behind

The contents that the buffers pass through, on the elements each step touches: a loaded slot, a filled chunk of the send
buffer, a landed chunk, the staged chunk, a widened slot, a stored window of the result.
-/
module

public import proofs.«01_k».proof.Proof.Ideal.Geometry

@[expose] public section

noncomputable section

namespace Cert.KernelIdeal.AllToAll

open Cert.KernelIdeal Cert.KernelIdeal.Gen
open Idealize.ShloMosaic
open Idealize.ShloMosaic.TcCoe
open Idealize.ShloMosaic.ValueIdx (ix2 ix3)

variable {F : FTy → Type} [FloatOps F]
variable (m : (ℓ : Loc nD τ sig) → Buf (Elt F) ℓ)

/-- A slot of the load buffer, loaded with the block of copy `i`. -/
def vaVal (c : Dev nD) (i : Fin 12) : S2x1024x1024.Idx → Elt F .f32 :=
  fun x => xAt m c (yOf c + i.val % 3 + 1) ⟨1024 * (i.val / 3) + (x 1).val, cRow_lt i (x 1)⟩ (x 2)

/-- The staging buffer, holding received chunk `j`. -/
def vbVal (c : Dev nD) (j : Fin 12) : S1024x1024.Idx → Elt F .bf16 := fun x => rbVal m c (cAt j x)

/-- A slot of the store buffer, holding received chunk `j` widened. -/
def voVal (c : Dev nD) (j : Fin 12) : S2x1024x1024.Idx → Elt F .f32 := fun x => widen (rbVal m c (cAt j (ix2 (x 1) (x 2))))

theorem xAt_congr (c : Dev nD) {y y' : ℕ} {r r' : Fin 4096} {q q' : Fin 1024} (hy : y % 4 = y' % 4) (hr : r.val = r'.val) (hq : q.val = q'.val) :
    xAt m c y r q = xAt m c y' r' q' := by
  obtain rfl := Fin.ext hr
  obtain rfl := Fin.ext hq
  unfold xAt
  congr 3
  omega

/-- The argument, by row and column. -/
theorem xv_eq (c : Dev nD) (x : S4096x4096.Idx) {y : ℕ} {r : Fin 4096} {q : Fin 1024} (hr : (x 0).val = r.val) (hq : (x 1).val = 1024 * (y % 4) + q.val) :
    xv m c x = xAt m c y r q := by
  unfold xAt
  refine congrArg (xv m c) (funext fun a => Fin.ext ?_)
  match a with
  | ⟨0, _⟩ => exact hr
  | ⟨1, _⟩ => exact hq

theorem write_va (c : Dev nD) (i : Fin 12) (s : Fin 2) (fd : S2x1024x1024.Idx → Elt F .f32) (x : S2x1024x1024.Idx) (hx : x ∈ (vaC s).view.set) :
    (vaC s).view.write (Elt F) fd ((xC c i).view.read (Elt F) (xv m c)) Finset.univ x = vaVal m c i x := by
  obtain ⟨y, rfl⟩ := exists_of_mem _ hx
  refine (View.write_emb_of_mem _ _ (Finset.mem_univ y)).trans ?_
  show xv m c ((xC c i).view.emb y) = _
  rw [vaC_emb]
  refine xv_eq m c _ ?_ ?_
  · show 1024 * (i.val / 3) + 1 * (y 0).val = 1024 * (i.val / 3) + (y 0).val
    omega
  · show 1024 * ((yOf c + i.val % 3 + 1) % 4) + 1 * (y 1).val = 1024 * ((yOf c + i.val % 3 + 1) % 4) + (y 1).val
    omega

/-- Narrowing a block is narrowing each element. -/
theorem narrow_pay (v : Vec F S1x1024x1024 .f32) (y : S1x1024x1024.Idx) : k0_pay1 v y = narrow (v y) := by
  show narrow (v (Shape.reshapeEquiv _ (Shape.reshapeEquiv _ y))) = narrow (v y)
  rw [Shape.reshapeEquiv_reshapeEquiv, Shape.reshapeEquiv_self]

/-- Where the rectangle of chunk `i`, and of slot `s`, lies in the send buffer and in a two-slot buffer. -/
abbrev cRect (i : Fin 12) : Rect S3x4096x1024 := Rect.unit (s := S3x4096x1024) (cOff i) S1x1024x1024.size (cOff_inb i)
abbrev sRect (s : Fin 2) : Rect S2x1024x1024 := Rect.unit (s := S2x1024x1024) (sOff s) S1x1024x1024.size (sOff_inb s)

theorem vs_set (i : Fin 12) : (vsC i).view.set = ((Memref.whole cc0_scratch0).access (cRect i)).set := Memref.set_view_squeeze _ squeezes_S1x1024x1024_S1024x1024
theorem va_set (s : Fin 2) : (vaC s).view.set = ((Memref.whole cc0_scratch1).access (sRect s)).set := Memref.set_view_squeeze _ squeezes_S1x1024x1024_S1024x1024
theorem vo_set (s : Fin 2) : (voC s).view.set = ((Memref.whole cc0_scratch3).access (sRect s)).set := Memref.set_view_squeeze _ squeezes_S1x1024x1024_S1024x1024

theorem write_vs (c : Dev nD) (i : Fin 12) (s : Fin 2) (f : S3x4096x1024.Idx → Elt F .bf16) (w : S1x1024x1024.Idx → Elt F .bf16)
    (hw : ∀ y, w y = narrow ((Memref.whole cc0_scratch1).view.readAt (Elt F) (sRect s).toLoadRect (vaVal m c i) y))
    (x : S3x4096x1024.Idx) (hx : x ∈ (vsC i).view.set) :
    ((Memref.whole cc0_scratch0).access (cRect i)).write (Elt F) f w Finset.univ x = vsVal m c x := by
  rw [vs_set] at hx
  obtain ⟨y, rfl⟩ := exists_of_mem _ hx
  refine (View.write_emb_of_mem _ _ (Finset.mem_univ y)).trans ?_
  show w y = _
  rw [hw]
  show narrow (vaVal m c i ((sRect s).emb y)) = narrow _
  refine congrArg narrow (xAt_congr m c ?_ ?_ ?_)
  · have h0 : (y 0).val < 1 := (y 0).isLt
    show (yOf c + i.val % 3 + 1) % 4 = (yOf c + (i.val % 3 + 1 * (y 0).val) + 1) % 4
    omega
  · show 1024 * (i.val / 3) + (0 + 1 * (y 1).val) = 1024 * (i.val / 3) + 1 * (y 1).val
    omega
  · rfl

theorem write_rb (c : Dev nD) (i : Fin 12) (fd : S3x4096x1024.Idx → Elt F .bf16) (x : S3x4096x1024.Idx) (hx : x ∈ (rbC i).view.set) :
    (rbC i).view.write (Elt F) fd ((vsC i).view.read (Elt F) (vsVal m c)) Finset.univ x = rbVal m (peer c (i.val % 3 + 1)) x := by
  obtain ⟨y, rfl⟩ := exists_of_mem _ hx
  refine (View.write_emb_of_mem _ _ (Finset.mem_univ y)).trans ?_
  show vsVal m c ((vsC i).view.emb y) = _
  rw [rbC_emb, vsC_emb]
  exact (rbVal_peer m c (cAt i y)).symm

theorem write_vb (c : Dev nD) (j : Fin 12) (fd : S1024x1024.Idx → Elt F .bf16) :
    vbM.view.write (Elt F) fd ((rbC j).view.read (Elt F) (rbVal m c)) Finset.univ = vbVal m c j := by
  refine (View.write_whole_univ _ _ _).trans (funext fun y => ?_)
  show rbVal m c ((rbC j).view.emb y) = _
  rw [rbC_emb]; rfl

theorem write_vo (c : Dev nD) (j : Fin 12) (s : Fin 2) (f : S2x1024x1024.Idx → Elt F .f32) (w : S1x1024x1024.Idx → Elt F .f32)
    (hw : ∀ y, w y = widen (vbVal m c j (Shape.reshapeEquiv shapeCasts_S1024x1024_S1x1024x1024 y)))
    (x : S2x1024x1024.Idx) (hx : x ∈ (voC s).view.set) :
    ((Memref.whole cc0_scratch3).access (sRect s)).write (Elt F) f w Finset.univ x = voVal m c j x := by
  obtain ⟨y, rfl⟩ := exists_of_mem _ hx
  have e : (voC s).view.emb y = ((Memref.whole cc0_scratch3).access (sRect s)).emb (Shape.reshapeEquiv squeezes_S1x1024x1024_S1024x1024.numel_eq y) := rfl
  rw [e]
  refine (View.write_emb_of_mem _ _ (Finset.mem_univ _)).trans ?_
  show w _ = _
  rw [hw, Shape.reshapeEquiv_reshapeEquiv, Shape.reshapeEquiv_self, ← e, voC_emb]
  show widen (rbVal m c (cAt j y)) = widen (rbVal m c (cAt j (ix2 (y 0) (y 1))))
  exact congrArg (fun z => widen (rbVal m c (cAt j z))) (ValueIdx.eq_ix2 y)

theorem write_o (c : Dev nD) (j : Fin 12) (s : Fin 2) (fd : S16384x1024.Idx → Elt F .f32) (x : S16384x1024.Idx) (hx : x ∈ (oC c j).view.set) :
    (oC c j).view.write (Elt F) fd ((voC s).view.read (Elt F) (voVal m c j)) Finset.univ x = oVal m c x := by
  have hx' := mem_oC.mp hx
  obtain ⟨y, rfl⟩ := exists_of_mem _ hx
  refine (View.write_emb_of_mem _ _ (Finset.mem_univ y)).trans ?_
  show voVal m c j ((voC s).view.emb y) = _
  rw [voC_emb]
  have hy := yOf_lt c
  have hj := j.isLt
  have h0 : (y 0).val < 1024 := (y 0).isLt
  have e0 : (((oC c j).view.emb y) 0).val = 4096 * ((yOf c + 3 - j.val % 3) % 4) + 1024 * (j.val / 3) + 1 * (y 0).val := rfl
  unfold oVal
  rw [if_neg (by omega)]
  refine congrArg (fun v => widen (narrow v)) ?_
  rw [peer_mod c (k := (((oC c j).view.emb y) 0).val / 4096 + 4 - yOf c) (l := 3 - j.val % 3) (by omega)]
  refine xAt_congr m _ rfl ?_ ?_
  · show 1024 * (j.val / 3) + (y 0).val = (((oC c j).view.emb y) 0).val % 4096
    omega
  · show (y 1).val = 0 + 1 * (y 1).val
    omega

theorem write_keep (c : Dev nD) (fd : S16384x1024.Idx → Elt F .f32) (x : S16384x1024.Idx) (hx : x ∈ (oKeep c).view.set) :
    (oKeep c).view.write (Elt F) fd ((xKeep c).view.read (Elt F) (xv m c)) Finset.univ x = oVal m c x := by
  have hx' := mem_oK.mp hx
  obtain ⟨y, rfl⟩ := exists_of_mem _ hx
  refine (View.write_emb_of_mem _ _ (Finset.mem_univ y)).trans ?_
  show xv m c ((xKeep c).view.emb y) = _
  have hy := yOf_lt c
  have h0 : (y 0).val < 4096 := (y 0).isLt
  have e0 : (((oKeep c).view.emb y) 0).val = 4096 * yOf c + 1 * (y 0).val := rfl
  unfold oVal
  rw [if_pos hx']
  refine xv_eq m c _ ?_ ?_
  · show 0 + 1 * (y 0).val = (((oKeep c).view.emb y) 0).val % 4096
    omega
  · show 1024 * yOf c + 1 * (y 1).val = 1024 * (yOf c % 4) + (0 + 1 * (y 1).val)
    omega

end Cert.KernelIdeal.AllToAll

end
-- ==== Proof.Ideal.Send.lean ====
/-
# One step of the send phase

Step `i` of the send phase: wait for the block of copy `i` in its slot of the load buffer, narrow it into chunk `i` of the
send buffer, load the block of copy `i + 2` into the slot, start remote copy `i`. Each rule is stated for every `i` at
once; the last two steps load nothing more.
-/
module

public import proofs.«01_k».proof.Proof.Ideal.Protocol
public import proofs.«01_k».proof.Proof.Ideal.Contents

@[expose] public section

noncomputable section

namespace Cert.KernelIdeal.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The kernel's programs, run on one device -/

local notation "ℙ" => Prog (TpuEff nD τ sig (Elt F) Λ₀ Proc.tc) PUnit

/-- Program `p`, run on device `c`, ends in `Q`. -/
abbrev run (c : Dev nD) (p : ℙ) (Q : PUnit → sProp 𝕄) : sProp 𝕄 := wp frame (wpE (defs₀ (F := F)) 𝒱₀ (c : Thread nD τ) none) Set.univ p Q

/-! ## What is still to do and what is done, among the twelve -/

def todo (n : ℕ) (Φ : Fin 12 → sProp 𝕄) : sProp 𝕄 := bigSep (Finset.univ.filter fun i : Fin 12 => n ≤ i.val) Φ
def done (n : ℕ) (Φ : Fin 12 → sProp 𝕄) : sProp 𝕄 := bigSep (Finset.univ.filter fun i : Fin 12 => i.val < n) Φ

omit [FloatOps F] in
theorem todo_step (i : Fin 12) (Φ : Fin 12 → sProp 𝕄) : todo i.val Φ = iprop(Φ i ∗ todo (i.val + 1) Φ) := by
  unfold todo
  rw [show (Finset.univ.filter fun j : Fin 12 => i.val ≤ j.val) = insert i (Finset.univ.filter fun j : Fin 12 => i.val + 1 ≤ j.val) by
      ext j; simp only [Finset.mem_filter, Finset.mem_univ, true_and, Finset.mem_insert, Fin.ext_iff]; omega]
  exact bigSep_insert (by simp)
omit [FloatOps F] in
theorem done_step (i : Fin 12) (Φ : Fin 12 → sProp 𝕄) : done (i.val + 1) Φ = iprop(Φ i ∗ done i.val Φ) := by
  unfold done
  rw [show (Finset.univ.filter fun j : Fin 12 => j.val < i.val + 1) = insert i (Finset.univ.filter fun j : Fin 12 => j.val < i.val) by
      ext j; simp only [Finset.mem_filter, Finset.mem_univ, true_and, Finset.mem_insert, Fin.ext_iff]; omega]
  exact bigSep_insert (by simp)
omit [FloatOps F] in
theorem todo_zero (Φ : Fin 12 → sProp 𝕄) : todo 0 Φ = bigSep Finset.univ Φ := by
  unfold todo; rw [Finset.filter_true_of_mem fun _ _ => Nat.zero_le _]
omit [FloatOps F] in
theorem done_zero (Φ : Fin 12 → sProp 𝕄) : done 0 Φ = iprop(emp) := by
  unfold done; rw [Finset.filter_false_of_mem fun _ _ => Nat.not_lt_zero _, bigSep_empty]; rfl
omit [FloatOps F] in
theorem done_end (Φ : Fin 12 → sProp 𝕄) : done 12 Φ = bigSep Finset.univ Φ := by
  unfold done; rw [Finset.filter_true_of_mem fun i _ => i.isLt]

/-! ## The argument, in shares -/

/-- The share of the argument that slot `s`'s loads read, and the share the local copy reads. -/
def qA (s : Fin 2) : PosShare TreeShare := if s = 0 then fullShare.right.left else fullShare.right.right
def qK : PosShare TreeShare := fullShare.left

/-- A share of device `c`'s argument. -/
def xTok (c : Dev nD) (q : PosShare TreeShare) : sProp 𝕄 := ((c : Thread nD τ).loc main_arg0) ↦{q} xv m c
/-- That share of one window, and of the rest. -/
def xWin (c : Dev nD) (i : Fin 12) (q : PosShare TreeShare) : sProp 𝕄 := (xC c i).view.loc (c : Thread nD τ) ↦[(xC c i).view.set]{q} xv m c
def xRest (c : Dev nD) (i : Fin 12) (q : PosShare TreeShare) : sProp 𝕄 :=
  ((c : Thread nD τ).loc main_arg0) ↦[Finset.univ \ (xC c i).view.set]{q} xv m c

omit [FloatOps F] in
theorem xTok_win (c : Dev nD) (i : Fin 12) (q : PosShare TreeShare) : xTok m c q ⊣⊢ iprop(xWin m c i q ∗ xRest m c i q) := by
  unfold xTok xWin xRest
  exact pointsTo_split_subset (Finset.subset_univ _)

omit [FloatOps F] in
theorem xTok_shares (c : Dev nD) : xTok m c fullShare ⊢ iprop(xTok m c qK ∗ xTok m c (qA 0) ∗ xTok m c (qA 1)) := by
  unfold xTok qA qK
  rw [if_pos rfl, if_neg (by decide)]
  iintro H
  ihave H := (pointsTo_share (PosShare.mem_left_op_right _)).1 $$ H
  icases H with ⟨H1, H2⟩
  ihave H2 := (pointsTo_share (PosShare.mem_left_op_right _)).1 $$ H2
  icases H2 with ⟨H2, H3⟩
  isplitl [H1]; · iexact H1
  isplitl [H2] <;> iassumption

/-! ## The slots of the load buffer -/

def vaPts (c : Dev nD) (s : Fin 2) (f : S2x1024x1024.Idx → Elt F .f32) : sProp 𝕄 :=
  (vaC s).view.loc (c : Thread nD τ) ↦[(vaC s).view.set]{fullShare} f

/-- The credit of one loaded block. -/
abbrev NA : ℕ := (vaC 0).view.dmaCredit
theorem NA_pos : 0 < NA := View.dmaCredit_pos _ (by decide)

/-- Slot `s` is free. -/
def idleA (c : Dev nD) (s : Fin 2) : sProp 𝕄 :=
  iprop((∃ f, vaPts c s f) ∗ xTok m c (qA s) ∗ semVal ((c : Thread nD τ), SemLoc.dma (aS s)) 0)
/-- The block of copy `i` is on its way into slot `s`. -/
def busyA (c : Dev nD) (i : Fin 12) (s : Fin 2) : sProp 𝕄 :=
  iprop(Transfers.Flight EC (c : Thread nD τ) (.dma (aS s)) () NA iprop(vaPts c s (vaVal m c i) ∗ xWin m c i (qA s)) ∗ xRest m c i (qA s))

theorem start_load (c : Dev nD) (i : Fin 12) (s : Fin 2) {off : Fin 2 → ℕ} {inb} (hoff : off = xOff c i) {offS : Fin 3 → ℕ} {inbS} (hS : offS = sOff s)
    {sem : DmaSem sig} (hsem : sem = aS s) {h1 h2 h3} {k : PUnit → ℙ} {Q : PUnit → sProp 𝕄} :
    idleA m c s ⊢ iprop((busyA m c i s -∗ run c (k ⟨⟩) Q)
      -∗ run c (.op (.enqueueDma (xM off inb) (.here (vaM offS inbS)) (.dma sem) h1 h2 h3) k) Q) := by
  subst hoff hS hsem
  unfold idleA busyA
  iintro ⟨⟨%f, Hva⟩, Hx, Hs⟩ Hk
  ihave Hx := (xTok_win m c i (qA s)).1 $$ Hx
  icases Hx with ⟨Hw, Hr⟩
  unfold vaPts xWin
  iapply (Transfers.wp_dmaLocal EC 𝒱₀ (c : Thread nD τ) none (fd := f) () NA rfl NA_pos (Finset.Subset.refl _)) $$ [Hva Hw Hs]
  · isplitl [Hw]; · iexact Hw
    isplitl [Hva] <;> iassumption
  iintro HF
  iapply Hk
  isplitl [HF]
  · iapply (Transfers.Flight_mono EC ?_) $$ HF
    refine sep_mono_left (Entails.of_eq (pointsTo_congr fun x hx => ?_))
    exact write_va m c i s f x hx
  iexact Hr

theorem wait_load (c : Dev nD) (i : Fin 12) (s : Fin 2) {sem : DmaSem sig} (hsem : sem = aS s) {sp sp' : Space} {s₁ s₂ : Shape} {e₁ e₂ : EltTy}
    {srcw : Memref sig .tc sp' s₁ e₁} {dstw : Memref sig .tc sp s₂ e₂} (hN : dstw.view.dmaCredit = NA) {h1 h2}
    (O : CellTallies nD τ sig Unit) (W : Waits sig Unit) {k : PUnit → ℙ} {Q : PUnit → sProp 𝕄} :
    iprop(busyA m c i s ∗ owes (c : Thread nD τ) O W ∗ MayWait (c : Thread nD τ) (.dma (aS s)) () O)
      ⊢ iprop((vaPts c s (vaVal m c i) ∗ xTok m c (qA s) ∗ semVal ((c : Thread nD τ), SemLoc.dma (aS s)) 0
            ∗ owes (c : Thread nD τ) O (insert (SemLoc.dma (aS s), ()) W) -∗ run c (k ⟨⟩) Q)
          -∗ run c (.op (.waitDma2 sem srcw dstw h1 h2) k) Q) := by
  subst hsem
  unfold busyA
  iintro ⟨⟨HF, Hr⟩, HO, Hm⟩ Hk
  iapply (Transfers.wp_waitLocalO EC 𝒱₀ (c : Thread nD τ) none () hN) $$ [HF HO Hm]
  · isplitl [HF]; · iexact HF
    isplitl [HO] <;> iassumption
  iintro ⟨⟨Hva, Hw⟩, Hs, HO⟩
  iapply Hk
  isplitl [Hva]; · iexact Hva
  isplitl [Hw Hr]
  · iapply (xTok_win m c i (qA s)).2
    isplitl [Hw] <;> iassumption
  isplitl [Hs] <;> iassumption

/-! ## Filling a chunk of the send buffer -/

theorem fill (c : Dev nD) (i : Fin 12) (s : Fin 2) {offC : Fin 3 → ℕ} {inbC} (hC : offC = cOff i) {offS : Fin 3 → ℕ} {inbS} (hS : offS = sOff s)
    {pay : Vec F S1x1024x1024 .f32 → FVec F S1x1024x1024 .bf16} (hpay : ∀ v y, pay v y = narrow (v y)) {h1 h2 h3 h4}
    {k : PUnit → ℙ} {Q : PUnit → sProp 𝕄} :
    iprop(vaPts c s (vaVal m c i) ∗ ∃ f, vsPts c i f)
      ⊢ iprop((vaPts c s (vaVal m c i) ∗ vsPts c i (vsVal m c) -∗ run c (k ⟨⟩) Q)
          -∗ run c (.op (.load (Memref.whole cc0_scratch1) (Rect.unit (s := S2x1024x1024) offS S1x1024x1024.size inbS).toLoadRect h1) fun v =>
              .op (.load (Memref.whole cc0_scratch0) (Rect.unit (s := S3x4096x1024) offC S1x1024x1024.size inbC).toLoadRect h2) fun _ =>
              .op (.store (Memref.whole cc0_scratch0) (Rect.unit (s := S3x4096x1024) offC S1x1024x1024.size inbC) (pay v) Finset.univ h3 h4) k) Q) := by
  subst hC hS
  unfold vaPts vsPts
  iintro ⟨Hva, ⟨%f, Hvs⟩⟩ Hk
  iapply (wp_load_rect 𝒱₀ (c : Thread nD τ) none Set.univ (m := Memref.whole cc0_scratch1) (r := sRect s) (Finset.Subset.refl _)) $$ [Hva]
  · rw [← va_set]; iexact Hva
  iintro Hva
  iapply (wp_load_rect 𝒱₀ (c : Thread nD τ) none Set.univ (m := Memref.whole cc0_scratch0) (r := cRect i) (Finset.Subset.refl _)) $$ [Hvs]
  · rw [← vs_set]; iexact Hvs
  iintro Hvs
  iapply (wp_store 𝒱₀ (c : Thread nD τ) none Set.univ (m := Memref.whole cc0_scratch0) (r := cRect i)
    (S := ((Memref.whole cc0_scratch0).access (cRect i)).set) (Mk := Finset.univ) (Finset.Subset.refl _)) $$ Hvs
  iintro Hvs
  iapply Hk
  isplitl [Hva]
  · rw [va_set]; iexact Hva
  rw [vs_set]
  iapply (Entails.of_eq (pointsTo_congr fun x hx => ?_)) $$ Hvs
  exact write_vs m c i s f _ (fun y => hpay _ y) x (by rw [vs_set]; exact hx)

/-! ## The remote copy -/

/-- What step `i` starts from, besides the loaded block: chunk `i` of the send buffer, chunk `i` of the receiver's landing
    buffer, and the right to raise the two semaphores once. -/
def preS (c : Dev nD) (i : Fin 12) : sProp 𝕄 :=
  iprop((∃ f, vsPts c i f) ∗ (∃ f, rbPts (peer c (i.val % 3 + 1)) i f)
    ∗ dutyTok ER (sendCell c i) 0 0 ∗ dutyTok ER (recvCell (peer c (i.val % 3 + 1)) i) 0 0)
/-- What it leaves: the credit with which the send semaphore is waited for. -/
def postS (c : Dev nD) (i : Fin 12) : sProp 𝕄 := cred (tallyAt (sendCell c i) () N)

theorem send (K : Dev nD × CK → ℕ) (c n : Dev nD) (i : Fin 12) (hn : n = peer c (i.val % 3 + 1))
    {offC : Fin 3 → ℕ} {inbC} (hC : offC = cOff i) {sS rS : DmaSem sig} (hs : sS = sendS i) (hr : rS = recvS i)
    {hsc} {h1 h2 h3} (W : Waits sig Unit) {k : PUnit → ℙ} {Q : PUnit → sProp 𝕄} :
    iprop(env m K ∗ vsPts c i (vsVal m c) ∗ (∃ f, rbPts (peer c (i.val % 3 + 1)) i f)
        ∗ dutyTok ER (sendCell c i) 0 0 ∗ dutyTok ER (recvCell (peer c (i.val % 3 + 1)) i) 0 0 ∗ owes (c : Thread nD τ) (owedR c i.val) W)
      ⊢ iprop((postS c i ∗ owes (c : Thread nD τ) (owedR c (i.val + 1)) W -∗ run c (k ⟨⟩) Q)
          -∗ run c (.op (.enqueueDma (vsM offC inbC) (.remote (Dev.tc n : Thread nD τ) (rbM offC inbC) (.dma sS) hsc) (.dma rS) h1 h2 h3) k) Q) := by
  subst hn hC hs hr
  have hd₁ : (0 : Fin 3) ∈ (ringRd (F := F) m).duties (sendCell c i) 0 := by rw [duties_send]; exact Finset.mem_singleton_self _
  have hd₂ : (0 : Fin 3) ∈ (ringRd (F := F) m).duties (recvCell (peer c (i.val % 3 + 1)) i) 0 := by rw [duties_recv]; exact Finset.mem_singleton_self _
  have hN : (rbM (cOff i) inbC).view.amount (SemLoc.dma (recvS i)) = N := rfl
  have hp₁ : vsPts c i (vsVal m c) ⊢ (ringRd (F := F) m).payload (sendCell c i) 0 0 := by rw [payload_send]
  have hp₂ : ∀ fd, rbPts (peer c (i.val % 3 + 1)) i ((rbC i).view.write (Elt F) fd ((vsC i).view.read (Elt F) (vsVal m c)) Finset.univ)
      ⊢ (ringRd (F := F) m).payload (recvCell (peer c (i.val % 3 + 1)) i) 0 0 := by
    intro fd
    rw [payload_recv]; unfold rbPts
    exact Entails.of_eq (pointsTo_congr fun x hx => write_rb m c i fd x hx)
  have hr : τ.routes (c : Thread nD τ) (Dev.tc (peer c (i.val % 3 + 1)) : Thread nD τ) = true := by routes
  have e₁ : env m K ⊢ cellInv ER (ringRd m) (K (c, some (false, i))) (sendCell c i) := env_inv m K (c, some (false, i))
  have e₂ : env m K ⊢ cellInv ER (ringRd m) (K (peer c (i.val % 3 + 1), some (true, i))) (recvCell (peer c (i.val % 3 + 1)) i) :=
    env_inv m K (peer c (i.val % 3 + 1), some (true, i))
  have e₃ : env m K ⊢ reached ER (sendCell c i) 0 := env_reached m K (c, some (false, i))
  have e₄ : env m K ⊢ reached ER (recvCell (peer c (i.val % 3 + 1)) i) 0 := env_reached m K (peer c (i.val % 3 + 1), some (true, i))
  iintro ⟨#HE, Hvs, ⟨%fd, Hrb⟩, Hts, Htr, HO⟩ Hk
  replace hp₂ := hp₂ fd
  unfold vsPts at hp₁
  unfold rbPts at hp₂
  unfold vsPts rbPts postS
  have key := (Rounds.wp_send_pointsTo (defs := defs₀ (F := F)) (Γ := .empty) (Es := Set.univ) 𝒱₀ ER (ringRd m) (c : Thread nD τ) none (c' := (Dev.tc (peer c (i.val % 3 + 1)) : Thread nD τ)) (src := vsM (cOff i) inbC) (dst := rbM (cOff i) inbC) (hsc := hsc)
    (sS := SemLoc.dma (sendS i)) (sem := SemLoc.dma (recvS i)) (hsrc := h1) (hdst := h2) (hsem := h3) (k := k) (Q := Q) (κ₁ := K (c, some (false, i))) (κ₂ := K (peer c (i.val % 3 + 1), some (true, i)))
    (r₁ := 0) (r₂ := 0) (d₁ := 0) (d₂ := 0) (fd := fd) (fs := vsVal m c) (q := fullShare)
    hd₁ hd₂ () () N hN (amount_send m c i 0) (amount_recv m (peer c (i.val % 3 + 1)) i 0) (owedR c (i.val + 1)) (owedR_step c i) (W := W)
    hp₁ hp₂ hr)
  iapply key $$ [Hvs Hrb Hts Htr HO]
  · isplitr; · iapply e₁; iexact HE
    isplitr; · iapply e₂; iexact HE
    isplitl [Hvs]; · iexact Hvs
    isplitl [Hrb]; · iexact Hrb
    isplitl [HO]; · iexact HO
    isplitl [Hts]; · iexact Hts
    isplitr; · iapply e₃; iexact HE
    isplitl [Htr]; · iexact Htr
    iapply e₄; iexact HE
  iintro H
  iapply Hk $$ H

/-! ## The steps -/

/-- Before step `n`: the shared facts, what steps `n` and later start from, the credits of the copies started, and what
    the device still owes: the copies not started. -/
def sendSt (K : Dev nD × CK → ℕ) (c : Dev nD) (n : ℕ) : sProp 𝕄 :=
  iprop(env m K ∗ todo n (preS c) ∗ done n (postS c) ∗ ∃ W, owes (c : Thread nD τ) (owedR c n) W)

theorem lv_aS (c : Dev nD) (s : Fin 2) : lv ((c : Thread nD τ), SemLoc.dma (aS s)) () ≤ 1 := by
  have h : ¬ (18 ≤ (aS s).val) := by revert s; decide
  simp [lv, h]

/-- Step `i` up to the filled chunk. -/
theorem load_fill (K : Dev nD × CK → ℕ) (c : Dev nD) (i : Fin 12) (s : Fin 2) {sem : DmaSem sig} (hsem : sem = aS s)
    {sp' : Space} {s₁ : Shape} {e₁ : EltTy} {srcw : Memref sig .tc sp' s₁ e₁} {w1 : srcw.view.WordExact}
    {offC : Fin 3 → ℕ} {inbC} (hC : offC = cOff i) {offS : Fin 3 → ℕ} {inbS} (hS : offS = sOff s) {w2 : (vaM offS inbS).view.WordExact}
    {pay : Vec F S1x1024x1024 .f32 → FVec F S1x1024x1024 .bf16} (hpay : ∀ v y, pay v y = narrow (v y)) {h1 h2 h3 h4}
    {k : PUnit → ℙ} {Q : PUnit → sProp 𝕄} :
    iprop(sendSt m K c i.val ∗ busyA m c i s)
      ⊢ iprop(((env m K ∗ todo (i.val + 1) (preS c) ∗ done i.val (postS c) ∗ vsPts c i (vsVal m c)
              ∗ (∃ f, rbPts (peer c (i.val % 3 + 1)) i f)
              ∗ dutyTok ER (sendCell c i) 0 0 ∗ dutyTok ER (recvCell (peer c (i.val % 3 + 1)) i) 0 0
              ∗ ∃ W, owes (c : Thread nD τ) (owedR c i.val) W) ∗ idleA m c s -∗ run c (k ⟨⟩) Q)
          -∗ run c (.op (.waitDma2 sem srcw (vaM offS inbS) w1 w2) fun _ =>
              .op (.load (Memref.whole cc0_scratch1) (Rect.unit (s := S2x1024x1024) offS S1x1024x1024.size inbS).toLoadRect h1) fun v =>
              .op (.load (Memref.whole cc0_scratch0) (Rect.unit (s := S3x4096x1024) offC S1x1024x1024.size inbC).toLoadRect h2) fun _ =>
              .op (.store (Memref.whole cc0_scratch0) (Rect.unit (s := S3x4096x1024) offC S1x1024x1024.size inbC) (pay v) Finset.univ h3 h4) k) Q) := by
  have hm := env_mayWait m K c i.val (.dma (aS s)) (lv_aS c s)
  unfold sendSt
  iintro ⟨⟨#HE, HT, HD, ⟨%W, HO⟩⟩, HB⟩ Hk
  iapply (wait_load m c i s hsem (show (vaM offS inbS).view.dmaCredit = NA from rfl) (owedR c i.val) W) $$ [HB HO]
  · isplitl [HB]; · iexact HB
    isplitl [HO]; · iexact HO
    iapply hm; iexact HE
  iintro ⟨Hva, Hx, Hs, HO⟩
  ihave HT := (Entails.of_eq (todo_step i (preS c))) $$ HT
  icases HT with ⟨HP, HT⟩
  unfold preS
  icases HP with ⟨Hvs, Hrb, Hts, Htr⟩
  iapply (fill m c i s hC hS hpay) $$ [Hva Hvs]
  · isplitl [Hva] <;> iassumption
  iintro ⟨Hva, Hvs⟩
  iapply Hk
  isplitr [Hva Hx Hs]
  · isplitr; · iexact HE
    isplitl [HT]; · iexact HT
    isplitl [HD]; · iexact HD
    isplitl [Hvs]; · iexact Hvs
    isplitl [Hrb]; · iexact Hrb
    isplitl [Hts]; · iexact Hts
    isplitl [Htr]; · iexact Htr
    iexists _; iexact HO
  unfold idleA
  isplitl [Hva]; · iexists _; iexact Hva
  isplitl [Hx] <;> iassumption

/-- Step `i` from the remote copy on. -/
theorem send_step (K : Dev nD × CK → ℕ) (c n : Dev nD) (i : Fin 12) (hn : n = peer c (i.val % 3 + 1))
    {offC : Fin 3 → ℕ} {inbC} (hC : offC = cOff i) {sS rS : DmaSem sig} (hs : sS = sendS i) (hr : rS = recvS i)
    {hsc} {h1 h2 h3} {k : PUnit → ℙ} {Q : PUnit → sProp 𝕄} :
    iprop(env m K ∗ todo (i.val + 1) (preS c) ∗ done i.val (postS c) ∗ vsPts c i (vsVal m c)
        ∗ (∃ f, rbPts (peer c (i.val % 3 + 1)) i f)
        ∗ dutyTok ER (sendCell c i) 0 0 ∗ dutyTok ER (recvCell (peer c (i.val % 3 + 1)) i) 0 0
        ∗ ∃ W, owes (c : Thread nD τ) (owedR c i.val) W)
      ⊢ iprop((sendSt m K c (i.val + 1) -∗ run c (k ⟨⟩) Q)
          -∗ run c (.op (.enqueueDma (vsM offC inbC) (.remote (Dev.tc n : Thread nD τ) (rbM offC inbC) (.dma sS) hsc) (.dma rS) h1 h2 h3) k) Q) := by
  iintro ⟨#HE, HT, HD, Hvs, Hrb, Hts, Htr, ⟨%W, HO⟩⟩ Hk
  iapply (send m K c n i hn hC hs hr W) $$ [Hvs Hrb Hts Htr HO]
  · isplitr; · iexact HE
    isplitl [Hvs]; · iexact Hvs
    isplitl [Hrb]; · iexact Hrb
    isplitl [Hts]; · iexact Hts
    isplitl [Htr] <;> iassumption
  iintro ⟨HP, HO⟩
  iapply Hk
  unfold sendSt
  rw [done_step]
  isplitr; · iexact HE
  isplitl [HT]; · iexact HT
  isplitl [HP HD]
  · isplitl [HP] <;> iassumption
  iexists W; iexact HO

/-- A step that loads the block of copy `i'` into the slot it read. -/
theorem step_more (K : Dev nD × CK → ℕ) (c n : Dev nD) (i i' : Fin 12) (s : Fin 2) {sem : DmaSem sig} (hsem : sem = aS s)
    {sp' : Space} {s₁ : Shape} {e₁ : EltTy} {srcw : Memref sig .tc sp' s₁ e₁} {w1 : srcw.view.WordExact}
    {offC : Fin 3 → ℕ} {inbC} (hC : offC = cOff i) {offS : Fin 3 → ℕ} {inbS} (hS : offS = sOff s) {w2 : (vaM offS inbS).view.WordExact}
    {pay : Vec F S1x1024x1024 .f32 → FVec F S1x1024x1024 .bf16} (hpay : ∀ v y, pay v y = narrow (v y)) {h1 h2 h3 h4}
    {off : Fin 2 → ℕ} {inb} (hoff : off = xOff c i') {sem' : DmaSem sig} (hsem' : sem' = aS s) {l1 l2 l3}
    (hn : n = peer c (i.val % 3 + 1)) {sS rS : DmaSem sig} (hs : sS = sendS i) (hr : rS = recvS i)
    {hsc} {r1 r2 r3} {k : PUnit → ℙ} {Q : PUnit → sProp 𝕄} :
    iprop(sendSt m K c i.val ∗ busyA m c i s)
      ⊢ iprop((sendSt m K c (i.val + 1) ∗ busyA m c i' s -∗ run c (k ⟨⟩) Q)
          -∗ run c (.op (.waitDma2 sem srcw (vaM offS inbS) w1 w2) fun _ =>
              .op (.load (Memref.whole cc0_scratch1) (Rect.unit (s := S2x1024x1024) offS S1x1024x1024.size inbS).toLoadRect h1) fun v =>
              .op (.load (Memref.whole cc0_scratch0) (Rect.unit (s := S3x4096x1024) offC S1x1024x1024.size inbC).toLoadRect h2) fun _ =>
              .op (.store (Memref.whole cc0_scratch0) (Rect.unit (s := S3x4096x1024) offC S1x1024x1024.size inbC) (pay v) Finset.univ h3 h4) fun _ =>
              .op (.enqueueDma (xM off inb) (.here (vaM offS inbS)) (.dma sem') l1 l2 l3) fun _ =>
              .op (.enqueueDma (vsM offC inbC) (.remote (Dev.tc n : Thread nD τ) (rbM offC inbC) (.dma sS) hsc) (.dma rS) r1 r2 r3) k) Q) := by
  iintro H Hk
  iapply (load_fill m K c i s hsem hC hS hpay) $$ H
  iintro ⟨H, HI⟩
  iapply (start_load m c i' s hoff hS hsem') $$ HI
  iintro HB
  iapply (send_step m K c n i hn hC hs hr) $$ H
  iintro H
  iapply Hk
  isplitl [H] <;> iassumption

/-- A step that loads nothing. -/
theorem step_last (K : Dev nD × CK → ℕ) (c n : Dev nD) (i : Fin 12) (s : Fin 2) {sem : DmaSem sig} (hsem : sem = aS s)
    {sp' : Space} {s₁ : Shape} {e₁ : EltTy} {srcw : Memref sig .tc sp' s₁ e₁} {w1 : srcw.view.WordExact}
    {offC : Fin 3 → ℕ} {inbC} (hC : offC = cOff i) {offS : Fin 3 → ℕ} {inbS} (hS : offS = sOff s) {w2 : (vaM offS inbS).view.WordExact}
    {pay : Vec F S1x1024x1024 .f32 → FVec F S1x1024x1024 .bf16} (hpay : ∀ v y, pay v y = narrow (v y)) {h1 h2 h3 h4}
    (hn : n = peer c (i.val % 3 + 1)) {sS rS : DmaSem sig} (hs : sS = sendS i) (hr : rS = recvS i)
    {hsc} {r1 r2 r3} {k : PUnit → ℙ} {Q : PUnit → sProp 𝕄} :
    iprop(sendSt m K c i.val ∗ busyA m c i s)
      ⊢ iprop((sendSt m K c (i.val + 1) ∗ idleA m c s -∗ run c (k ⟨⟩) Q)
          -∗ run c (.op (.waitDma2 sem srcw (vaM offS inbS) w1 w2) fun _ =>
              .op (.load (Memref.whole cc0_scratch1) (Rect.unit (s := S2x1024x1024) offS S1x1024x1024.size inbS).toLoadRect h1) fun v =>
              .op (.load (Memref.whole cc0_scratch0) (Rect.unit (s := S3x4096x1024) offC S1x1024x1024.size inbC).toLoadRect h2) fun _ =>
              .op (.store (Memref.whole cc0_scratch0) (Rect.unit (s := S3x4096x1024) offC S1x1024x1024.size inbC) (pay v) Finset.univ h3 h4) fun _ =>
              .op (.enqueueDma (vsM offC inbC) (.remote (Dev.tc n : Thread nD τ) (rbM offC inbC) (.dma sS) hsc) (.dma rS) r1 r2 r3) k) Q) := by
  iintro H Hk
  iapply (load_fill m K c i s hsem hC hS hpay) $$ H
  iintro ⟨H, HI⟩
  iapply (send_step m K c n i hn hC hs hr) $$ H
  iintro H
  iapply Hk
  isplitl [H] <;> iassumption

end Cert.KernelIdeal.AllToAll

end
-- ==== Proof.Ideal.Recv.lean ====
/-
# One step of the receive phase

Step `j` of the receive phase: wait until chunk `j` of the landing buffer has landed, copy it into the staging buffer,
widen it into a slot of the store buffer (whose previous store, of step `j - 2`, is waited for first), start the store of
that slot into the result. Stated for every `j` at once.
-/
module

public import proofs.«01_k».proof.Proof.Ideal.Send

@[expose] public section

noncomputable section

namespace Cert.KernelIdeal.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => Prog (TpuEff nD τ sig (Elt F) Λ₀ Proc.tc) PUnit

variable (m : (ℓ : Loc nD τ sig) → Buf (Elt F) ℓ)

/-! ## Waiting on a cell of the exchange and closing it -/

/-- The wait for a whole cell by the device that owes nothing more: the cell's payloads, and its counter at zero. -/
theorem wait_cell (K : Dev nD × CK → ℕ) (c : Dev nD) (p : CK) (R : sProp 𝕄) {sem : DmaSem sig} (hcell : kcell (c, p) = ((c : Thread nD τ), SemLoc.dma sem))
    (hex : (ringRd (F := F) m).expect (kcell (c, p)) 0 = N)
    (hlater : ∀ r, 1 ≤ r → (ringRd (F := F) m).duties (kcell (c, p)) r = ∅)
    (hrest : (bigSep ((ringRd (F := F) m).duties (kcell (c, p)) 0 \ ∅) fun d => (ringRd m).payload (kcell (c, p)) 0 d) = R)
    {sp sp' : Space} {s₁ s₂ : Shape} {e₁ e₂ : EltTy}
    {srcw : Memref sig .tc sp' s₁ e₁} {dstw : Memref sig .tc sp s₂ e₂} (hN : dstw.view.dmaCredit = N) {h1 h2}
    (W : Waits sig Unit) {k : PUnit → ℙ} {Q : PUnit → sProp 𝕄} :
    iprop(env m K ∗ atPos ER (kcell (c, p)) 0 ∅ 0 ∗ cred (tallyAt (kcell (c, p)) () N) ∗ owes (c : Thread nD τ) 0 W)
      ⊢ iprop((R ∗ semVal (kcell (c, p)) 0 ∗ owes (c : Thread nD τ) 0 (insert (SemLoc.dma sem, ()) W) -∗ run c (k ⟨⟩) Q)
          -∗ run c (.op (.waitDma2 sem srcw dstw h1 h2) k) Q) := by
  have e₁ : env m K ⊢ cellInv ER (ringRd m) (K (c, p)) (kcell (c, p)) := env_inv m K (c, p)
  rw [hcell] at e₁ hex hlater hrest ⊢
  have hk : 0 + dstw.view.dmaCredit = (ringRd (F := F) m).expect ((c : Thread nD τ), SemLoc.dma sem) 0 := by rw [hex, hN, Nat.zero_add]
  iintro ⟨#HE, Hat, Hc, HO⟩ Hk
  iapply (Rounds.wp_wait_rest_token 𝒱₀ ER (ringRd m) (c : Thread nD τ) none (κ := K (c, p))
      (wpE_waitDma2_eq 𝒱₀ (c : Thread nD τ) none Set.univ) (Set.mem_univ _) () (O := 0) (W := W) (R := 0) (m := 0) (T := ∅) hk) $$ [Hc HO Hat]
  · isplitr; · iapply e₁; iexact HE
    isplitl [Hc]; · rw [hN]; iexact Hc
    isplitl [HO]; · iexact HO
    isplitr; · rw [MayWait_zero]; iempintro
    iexact Hat
  iintro ⟨HO, Hat, -, Hpay⟩
  ihave Hp := (Entails.of_eq hrest) $$ Hpay
  imod (Rounds.cell_close ER (ringRd m) (Set.mem_univ (K (c, p))) (fun h => h) (R := 0 + 1) hlater) $$ [Hat] with Hz
  · isplitr; · iapply e₁; iexact HE
    iexact Hat
  iapply Hk
  isplitl [Hp]; · iexact Hp
  isplitl [Hz] <;> iassumption

/-! ## The store buffer's slots and the result's windows -/

def voPts (c : Dev nD) (s : Fin 2) (f : S2x1024x1024.Idx → Elt F .f32) : sProp 𝕄 :=
  (voC s).view.loc (c : Thread nD τ) ↦[(voC s).view.set]{fullShare} f
def vbPts (c : Dev nD) (f : S1024x1024.Idx → Elt F .bf16) : sProp 𝕄 := vbM.view.loc (c : Thread nD τ) ↦{fullShare} f
def oPts (c : Dev nD) (j : Fin 12) (f : S16384x1024.Idx → Elt F .f32) : sProp 𝕄 :=
  (oC c j).view.loc (c : Thread nD τ) ↦[(oC c j).view.set]{fullShare} f
def okPts (c : Dev nD) (f : S16384x1024.Idx → Elt F .f32) : sProp 𝕄 :=
  (oKeep c).view.loc (c : Thread nD τ) ↦[(oKeep c).view.set]{fullShare} f

/-- The credits of a staged chunk, of a stored chunk, and of the device's own block. -/
abbrev NB : ℕ := vbM.view.dmaCredit
abbrev NO : ℕ := (oC 0 0).view.dmaCredit
abbrev NK : ℕ := (oKeep 0).view.dmaCredit
theorem NB_pos : 0 < NB := View.dmaCredit_pos _ (by decide)
theorem NO_pos : 0 < NO := View.dmaCredit_pos _ (by decide)
theorem NK_pos : 0 < NK := View.dmaCredit_pos _ (by decide)

/-- Slot `s` of the store buffer is free. -/
def idleO (c : Dev nD) (s : Fin 2) : sProp 𝕄 :=
  iprop((∃ f, voPts c s f) ∗ semVal ((c : Thread nD τ), SemLoc.dma (oS s)) 0)
/-- Chunk `j` is on its way from slot `s` into the result. -/
def busyO (c : Dev nD) (j : Fin 12) (s : Fin 2) : sProp 𝕄 :=
  Transfers.Flight EC (c : Thread nD τ) (.dma (oS s)) () NO iprop(oPts c j (oVal m c) ∗ voPts c s (voVal m c j))

theorem start_store (c : Dev nD) (j : Fin 12) (s : Fin 2) {off : Fin 2 → ℕ} {inb} (hoff : off = oOff c j) {offS : Fin 3 → ℕ} {inbS} (hS : offS = sOff s)
    {sem : DmaSem sig} (hsem : sem = oS s) {h1 h2 h3} {k : PUnit → ℙ} {Q : PUnit → sProp 𝕄} :
    iprop(voPts c s (voVal m c j) ∗ (∃ f, oPts c j f) ∗ semVal ((c : Thread nD τ), SemLoc.dma (oS s)) 0)
      ⊢ iprop((busyO m c j s -∗ run c (k ⟨⟩) Q)
        -∗ run c (.op (.enqueueDma (voM offS inbS) (.here (oM off inb)) (.dma sem) h1 h2 h3) k) Q) := by
  subst hoff hS hsem
  unfold busyO
  iintro ⟨Hvo, ⟨%f, Ho⟩, Hs⟩ Hk
  unfold voPts oPts
  iapply (Transfers.wp_dmaLocal EC 𝒱₀ (c : Thread nD τ) none (fd := f) () NO rfl NO_pos (Finset.Subset.refl _)) $$ [Hvo Ho Hs]
  · isplitl [Hvo]; · iexact Hvo
    isplitl [Ho] <;> iassumption
  iintro HF
  iapply Hk
  iapply (Transfers.Flight_mono EC ?_) $$ HF
  refine sep_mono_left (Entails.of_eq (pointsTo_congr fun x hx => ?_))
  exact write_o m c j s f x hx

theorem wait_store (c : Dev nD) (j : Fin 12) (s : Fin 2) {sem : DmaSem sig} (hsem : sem = oS s) {sp sp' : Space} {s₁ s₂ : Shape} {e₁ e₂ : EltTy}
    {srcw : Memref sig .tc sp' s₁ e₁} {dstw : Memref sig .tc sp s₂ e₂} (hN : dstw.view.dmaCredit = NO) {h1 h2}
    (W : Waits sig Unit) {k : PUnit → ℙ} {Q : PUnit → sProp 𝕄} :
    iprop(busyO m c j s ∗ owes (c : Thread nD τ) 0 W)
      ⊢ iprop((oPts c j (oVal m c) ∗ idleO c s ∗ owes (c : Thread nD τ) 0 (insert (SemLoc.dma (oS s), ()) W) -∗ run c (k ⟨⟩) Q)
          -∗ run c (.op (.waitDma2 sem srcw dstw h1 h2) k) Q) := by
  subst hsem
  unfold busyO idleO
  iintro H Hk
  iapply (Transfers.wp_waitLocal EC 𝒱₀ (c : Thread nD τ) none () hN) $$ H
  iintro ⟨⟨Ho, Hvo⟩, Hs, HO⟩
  iapply Hk
  isplitl [Ho]; · iexact Ho
  isplitl [Hvo Hs]
  · isplitl [Hvo]; · iexists _; iexact Hvo
    iexact Hs
  iexact HO

/-! ## Staging a landed chunk -/

theorem stage (c : Dev nD) (j : Fin 12) {offC : Fin 3 → ℕ} {inbC} (hC : offC = cOff j) {srcw : Memref sig .tc .hbm S1024x1024 .bf16}
    {h1 h2 h3 h4 h5} (W : Waits sig Unit) {k : PUnit → ℙ} {Q : PUnit → sProp 𝕄} :
    iprop(rbPts c j (rbVal m c) ∗ (∃ f, vbPts c f) ∗ semVal ((c : Thread nD τ), SemLoc.dma bS) 0 ∗ owes (c : Thread nD τ) 0 W)
      ⊢ iprop((rbPts c j (rbVal m c) ∗ vbPts c (vbVal m c j) ∗ semVal ((c : Thread nD τ), SemLoc.dma bS) 0
            ∗ owes (c : Thread nD τ) 0 (insert (SemLoc.dma bS, ()) W) -∗ run c (k ⟨⟩) Q)
        -∗ run c (.op (.enqueueDma (rbM offC inbC) (.here vbM) (.dma bS) h1 h2 h3) fun _ => .op (.waitDma2 bS srcw vbM h4 h5) k) Q) := by
  subst hC
  iintro ⟨Hrb, ⟨%f, Hvb⟩, Hs, HO⟩ Hk
  unfold rbPts vbPts
  iapply (Transfers.wp_dmaLocal EC 𝒱₀ (c : Thread nD τ) none (fd := f) () NB rfl NB_pos (Sd := Finset.univ) (Finset.subset_univ _)) $$ [Hrb Hvb Hs]
  · isplitl [Hrb]; · iexact Hrb
    isplitl [Hvb] <;> iassumption
  iintro HF
  iapply (Transfers.wp_waitLocal EC 𝒱₀ (c : Thread nD τ) none () rfl) $$ [HF HO]
  · isplitl [HF] <;> iassumption
  iintro ⟨⟨Hvb, Hrb⟩, Hs, HO⟩
  iapply Hk
  isplitl [Hrb]; · iexact Hrb
  isplitl [Hvb]
  · iapply (Entails.of_eq (pointsTo_congr fun x _ => ?_)) $$ Hvb
    exact congrFun (write_vb m c j f) x
  isplitl [Hs] <;> iassumption

/-- Widening the staged chunk into a slot of the store buffer. -/
theorem widen_slot (c : Dev nD) (j : Fin 12) (s : Fin 2) {offS : Fin 3 → ℕ} {inbS} (hS : offS = sOff s)
    {pay : Vec F S1024x1024 .bf16 → FVec F S1x1024x1024 .f32}
    (hpay : ∀ v y, pay v y = widen (v (Shape.reshapeEquiv shapeCasts_S1024x1024_S1x1024x1024 y))) {h1 h2 h3 h4}
    {k : PUnit → ℙ} {Q : PUnit → sProp 𝕄} :
    iprop(vbPts c (vbVal m c j) ∗ ∃ f, voPts c s f)
      ⊢ iprop((vbPts c (vbVal m c j) ∗ voPts c s (voVal m c j) -∗ run c (k ⟨⟩) Q)
          -∗ run c (.op (.load vbM (Rect.unit (s := S1024x1024) ![0, 0] S1024x1024.size inb_S1024x1024_S1024x1024_0_0).toLoadRect h1) fun v =>
              .op (.load (Memref.whole cc0_scratch3) (Rect.unit (s := S2x1024x1024) offS S1x1024x1024.size inbS).toLoadRect h2) fun _ =>
              .op (.store (Memref.whole cc0_scratch3) (Rect.unit (s := S2x1024x1024) offS S1x1024x1024.size inbS) (pay v) Finset.univ h3 h4) k) Q) := by
  subst hS
  unfold vbPts voPts
  iintro ⟨Hvb, ⟨%f, Hvo⟩⟩ Hk
  iapply (wp_load 𝒱₀ (c : Thread nD τ) none Set.univ (m := vbM) (Finset.subset_univ _)) $$ Hvb
  iintro Hvb
  rw [show vbM.view.readAt (Elt F) (Rect.unit (s := S1024x1024) ![0, 0] S1024x1024.size inb_S1024x1024_S1024x1024_0_0).toLoadRect (vbVal m c j) = vbVal m c j from
    Memref.readAt_unit_zero (Elt F) cc0_scratch2 (funext fun a => by revert a; decide) _ _]
  iapply (wp_load_rect 𝒱₀ (c : Thread nD τ) none Set.univ (m := Memref.whole cc0_scratch3) (r := sRect s) (Finset.Subset.refl _)) $$ [Hvo]
  · rw [← vo_set]; iexact Hvo
  iintro Hvo
  iapply (wp_store 𝒱₀ (c : Thread nD τ) none Set.univ (m := Memref.whole cc0_scratch3) (r := sRect s)
    (S := ((Memref.whole cc0_scratch3).access (sRect s)).set) (Mk := Finset.univ) (Finset.Subset.refl _)) $$ Hvo
  iintro Hvo
  iapply Hk
  isplitl [Hvb]; · iexact Hvb
  rw [vo_set]
  iapply (Entails.of_eq (pointsTo_congr fun x hx => ?_)) $$ Hvo
  exact write_vo m c j s f _ (fun y => hpay _ y) x (by rw [vo_set]; exact hx)

/-! ## The steps -/

/-- What step `j` starts from: its position in its receive cell, the landing's credit, and the window of the result. -/
def preR (c : Dev nD) (j : Fin 12) : sProp 𝕄 :=
  iprop(atPos ER (recvCell c j) 0 ∅ 0 ∗ cred (tallyAt (recvCell c j) () N) ∗ ∃ f, oPts c j f)
/-- What it leaves at once: the chunk as landed and the closed cell's counter. -/
def postR (c : Dev nD) (j : Fin 12) : sProp 𝕄 := iprop(rbPts c j (rbVal m c) ∗ semVal (recvCell c j) 0)
/-- What its store leaves: a window of the result, as it should be. -/
def outR (c : Dev nD) (j : Fin 12) : sProp 𝕄 := oPts c j (oVal m c)

/-- Before step `n`. -/
def recvSt (K : Dev nD × CK → ℕ) (c : Dev nD) (n : ℕ) : sProp 𝕄 :=
  iprop(env m K ∗ todo n (preR c) ∗ done n (postR m c) ∗ (∃ f, vbPts c f) ∗ semVal ((c : Thread nD τ), SemLoc.dma bS) 0
    ∗ ∃ W, owes (c : Thread nD τ) 0 W)

/-- Between the staging and the widening of step `j`. -/
def midSt (K : Dev nD × CK → ℕ) (c : Dev nD) (j : Fin 12) : sProp 𝕄 :=
  iprop(env m K ∗ todo (j.val + 1) (preR c) ∗ done (j.val + 1) (postR m c) ∗ vbPts c (vbVal m c j) ∗ semVal ((c : Thread nD τ), SemLoc.dma bS) 0
    ∗ (∃ W, owes (c : Thread nD τ) 0 W) ∗ ∃ f, oPts c j f)

theorem recv_a (K : Dev nD × CK → ℕ) (c : Dev nD) (j : Fin 12) {sem : DmaSem sig} (hsem : sem = recvS j)
    {sp' : Space} {s₁ : Shape} {e₁ : EltTy} {srcw : Memref sig .tc sp' s₁ e₁} {w1 : srcw.view.WordExact}
    {offC : Fin 3 → ℕ} {inbC} (hC : offC = cOff j) {w2 : (rbM offC inbC).view.WordExact} {srcb : Memref sig .tc .hbm S1024x1024 .bf16}
    {h1 h2 h3 h4 h5} {k : PUnit → ℙ} {Q : PUnit → sProp 𝕄} :
    recvSt m K c j.val
      ⊢ iprop((midSt m K c j -∗ run c (k ⟨⟩) Q)
        -∗ run c (.op (.waitDma2 sem srcw (rbM offC inbC) w1 w2) fun _ =>
            .op (.enqueueDma (rbM offC inbC) (.here vbM) (.dma bS) h1 h2 h3) fun _ => .op (.waitDma2 bS srcb vbM h4 h5) k) Q) := by
  subst hsem
  unfold recvSt midSt
  iintro ⟨#HE, HT, HD, Hvb, Hb, ⟨%W, HO⟩⟩ Hk
  ihave HT := (Entails.of_eq (todo_step j (preR c))) $$ HT
  icases HT with ⟨HP, HT⟩
  unfold preR
  icases HP with ⟨Hat, Hc, Ho⟩
  iapply (wait_cell m K c (some (true, j)) _ rfl (expect_recv m c j) (duties_later m (recvCell c j)) (rest_recv m c j) (show (rbM offC inbC).view.dmaCredit = N from rfl) W) $$ [Hat Hc HO]
  · isplitr; · iexact HE
    isplitl [Hat]; · iexact Hat
    isplitl [Hc] <;> iassumption
  iintro ⟨Hrb, Hz, HO⟩
  iapply (stage m c j hC _) $$ [Hrb Hvb Hb HO]
  · isplitl [Hrb]; · iexact Hrb
    isplitl [Hvb]; · iexact Hvb
    isplitl [Hb] <;> iassumption
  iintro ⟨Hrb, Hvb, Hb, HO⟩
  iapply Hk
  isplitr; · iexact HE
  isplitl [HT]; · iexact HT
  isplitl [HD Hrb Hz]
  · iapply (Entails.of_eq (done_step j (postR m c)).symm)
    isplitr [HD]
    · unfold postR
      isplitl [Hrb] <;> iassumption
    iexact HD
  isplitl [Hvb]; · iexact Hvb
  isplitl [Hb]; · iexact Hb
  isplitl [HO]; · iexists _; iexact HO
  iexact Ho

theorem recv_b (K : Dev nD × CK → ℕ) (c : Dev nD) (j : Fin 12) (s : Fin 2) {offS : Fin 3 → ℕ} {inbS} (hS : offS = sOff s)
    {pay : Vec F S1024x1024 .bf16 → FVec F S1x1024x1024 .f32}
    (hpay : ∀ v y, pay v y = widen (v (Shape.reshapeEquiv shapeCasts_S1024x1024_S1x1024x1024 y))) {h1 h2 h3 h4}
    {off : Fin 2 → ℕ} {inb} (hoff : off = oOff c j) {sem : DmaSem sig} (hsem : sem = oS s) {r1 r2 r3}
    {k : PUnit → ℙ} {Q : PUnit → sProp 𝕄} :
    iprop(midSt m K c j ∗ idleO c s)
      ⊢ iprop((recvSt m K c (j.val + 1) ∗ busyO m c j s -∗ run c (k ⟨⟩) Q)
          -∗ run c (.op (.load vbM (Rect.unit (s := S1024x1024) ![0, 0] S1024x1024.size inb_S1024x1024_S1024x1024_0_0).toLoadRect h1) fun v =>
              .op (.load (Memref.whole cc0_scratch3) (Rect.unit (s := S2x1024x1024) offS S1x1024x1024.size inbS).toLoadRect h2) fun _ =>
              .op (.store (Memref.whole cc0_scratch3) (Rect.unit (s := S2x1024x1024) offS S1x1024x1024.size inbS) (pay v) Finset.univ h3 h4) fun _ =>
              .op (.enqueueDma (voM offS inbS) (.here (oM off inb)) (.dma sem) r1 r2 r3) k) Q) := by
  unfold recvSt midSt idleO
  iintro ⟨⟨#HE, HT, HD, Hvb, Hb, HO, Ho⟩, ⟨Hvo, Hs⟩⟩ Hk
  iapply (widen_slot m c j s hS hpay) $$ [Hvb Hvo]
  · isplitl [Hvb] <;> iassumption
  iintro ⟨Hvb, Hvo⟩
  iapply (start_store m c j s hoff hS hsem) $$ [Hvo Ho Hs]
  · isplitl [Hvo]; · iexact Hvo
    isplitl [Ho] <;> iassumption
  iintro HF
  iapply Hk
  isplitr [HF]
  · isplitr; · iexact HE
    isplitl [HT]; · iexact HT
    isplitl [HD]; · iexact HD
    isplitl [Hvb]; · iexists _; iexact Hvb
    isplitl [Hb] <;> iassumption
  iexact HF

/-- A step that uses a slot for the first time. -/
theorem recv_first (K : Dev nD × CK → ℕ) (c : Dev nD) (j : Fin 12) (s : Fin 2) {sem : DmaSem sig} (hsem : sem = recvS j)
    {sp' : Space} {s₁ : Shape} {e₁ : EltTy} {srcw : Memref sig .tc sp' s₁ e₁} {w1 : srcw.view.WordExact}
    {offC : Fin 3 → ℕ} {inbC} (hC : offC = cOff j) {w2 : (rbM offC inbC).view.WordExact} {srcb : Memref sig .tc .hbm S1024x1024 .bf16} {g1 g2 g3 g4 g5}
    {offS : Fin 3 → ℕ} {inbS} (hS : offS = sOff s)
    {pay : Vec F S1024x1024 .bf16 → FVec F S1x1024x1024 .f32}
    (hpay : ∀ v y, pay v y = widen (v (Shape.reshapeEquiv shapeCasts_S1024x1024_S1x1024x1024 y))) {h1 h2 h3 h4}
    {off : Fin 2 → ℕ} {inb} (hoff : off = oOff c j) {semo : DmaSem sig} (hsemo : semo = oS s) {r1 r2 r3}
    {k : PUnit → ℙ} {Q : PUnit → sProp 𝕄} :
    iprop(recvSt m K c j.val ∗ idleO c s)
      ⊢ iprop((recvSt m K c (j.val + 1) ∗ busyO m c j s -∗ run c (k ⟨⟩) Q)
          -∗ run c (.op (.waitDma2 sem srcw (rbM offC inbC) w1 w2) fun _ =>
              .op (.enqueueDma (rbM offC inbC) (.here vbM) (.dma bS) g1 g2 g3) fun _ => .op (.waitDma2 bS srcb vbM g4 g5) fun _ =>
              .op (.load vbM (Rect.unit (s := S1024x1024) ![0, 0] S1024x1024.size inb_S1024x1024_S1024x1024_0_0).toLoadRect h1) fun v =>
              .op (.load (Memref.whole cc0_scratch3) (Rect.unit (s := S2x1024x1024) offS S1x1024x1024.size inbS).toLoadRect h2) fun _ =>
              .op (.store (Memref.whole cc0_scratch3) (Rect.unit (s := S2x1024x1024) offS S1x1024x1024.size inbS) (pay v) Finset.univ h3 h4) fun _ =>
              .op (.enqueueDma (voM offS inbS) (.here (oM off inb)) (.dma semo) r1 r2 r3) k) Q) := by
  iintro ⟨H, HI⟩ Hk
  iapply (recv_a m K c j hsem hC) $$ H
  iintro H
  iapply (recv_b m K c j s hS hpay hoff hsemo) $$ [H HI] Hk
  isplitl [H] <;> iassumption

/-- A step that waits for the slot's previous store, of chunk `j'`. -/
theorem recv_next (K : Dev nD × CK → ℕ) (c : Dev nD) (j j' : Fin 12) (s : Fin 2) {sem : DmaSem sig} (hsem : sem = recvS j)
    {sp' : Space} {s₁ : Shape} {e₁ : EltTy} {srcw : Memref sig .tc sp' s₁ e₁} {w1 : srcw.view.WordExact}
    {offC : Fin 3 → ℕ} {inbC} (hC : offC = cOff j) {w2 : (rbM offC inbC).view.WordExact} {srcb : Memref sig .tc .hbm S1024x1024 .bf16} {g1 g2 g3 g4 g5}
    {semw : DmaSem sig} (hsemw : semw = oS s) {sq' : Space} {t₁ : Shape} {d₁ : EltTy}
    {srco : Memref sig .tc sq' t₁ d₁} {offw : Fin 2 → ℕ} {inbw} {v1 : srco.view.WordExact} {v2 : (oM offw inbw).view.WordExact}
    {offS : Fin 3 → ℕ} {inbS} (hS : offS = sOff s)
    {pay : Vec F S1024x1024 .bf16 → FVec F S1x1024x1024 .f32}
    (hpay : ∀ v y, pay v y = widen (v (Shape.reshapeEquiv shapeCasts_S1024x1024_S1x1024x1024 y))) {h1 h2 h3 h4}
    {off : Fin 2 → ℕ} {inb} (hoff : off = oOff c j) {semo : DmaSem sig} (hsemo : semo = oS s) {r1 r2 r3}
    {k : PUnit → ℙ} {Q : PUnit → sProp 𝕄} :
    iprop(recvSt m K c j.val ∗ busyO m c j' s ∗ done j'.val (outR m c))
      ⊢ iprop((recvSt m K c (j.val + 1) ∗ busyO m c j s ∗ done (j'.val + 1) (outR m c) -∗ run c (k ⟨⟩) Q)
          -∗ run c (.op (.waitDma2 sem srcw (rbM offC inbC) w1 w2) fun _ =>
              .op (.enqueueDma (rbM offC inbC) (.here vbM) (.dma bS) g1 g2 g3) fun _ => .op (.waitDma2 bS srcb vbM g4 g5) fun _ =>
              .op (.waitDma2 semw srco (oM offw inbw) v1 v2) fun _ =>
              .op (.load vbM (Rect.unit (s := S1024x1024) ![0, 0] S1024x1024.size inb_S1024x1024_S1024x1024_0_0).toLoadRect h1) fun v =>
              .op (.load (Memref.whole cc0_scratch3) (Rect.unit (s := S2x1024x1024) offS S1x1024x1024.size inbS).toLoadRect h2) fun _ =>
              .op (.store (Memref.whole cc0_scratch3) (Rect.unit (s := S2x1024x1024) offS S1x1024x1024.size inbS) (pay v) Finset.univ h3 h4) fun _ =>
              .op (.enqueueDma (voM offS inbS) (.here (oM off inb)) (.dma semo) r1 r2 r3) k) Q) := by
  iintro ⟨H, HB, HD⟩ Hk
  iapply (recv_a m K c j hsem hC) $$ H
  iintro H
  unfold midSt
  icases H with ⟨HE, HT, HDR, Hvb, Hb, ⟨%W, HO⟩, Ho⟩
  iapply (wait_store m c j' s hsemw (show (oM offw inbw).view.dmaCredit = NO from rfl) W) $$ [HB HO]
  · isplitl [HB] <;> iassumption
  iintro ⟨Hout, HI, HO⟩
  iapply (recv_b m K c j s hS hpay hoff hsemo) $$ [HE HT HDR Hvb Hb HO Ho HI]
  · isplitr [HI]
    · unfold midSt
      isplitl [HE]; · iexact HE
      isplitl [HT]; · iexact HT
      isplitl [HDR]; · iexact HDR
      isplitl [Hvb]; · iexact Hvb
      isplitl [Hb]; · iexact Hb
      isplitl [HO]; · iexists _; iexact HO
      iexact Ho
    iexact HI
  iintro ⟨H, HB⟩
  iapply Hk
  isplitl [H]; · iexact H
  isplitl [HB]; · iexact HB
  iapply (Entails.of_eq (done_step j' (outR m c)).symm)
  unfold outR
  isplitl [Hout] <;> iassumption

end Cert.KernelIdeal.AllToAll

end
-- ==== Proof.Ideal.Ends.lean ====
/-
# The handshake before the copies, and the waits after them

The three signals hand each of the three other devices of the ring the chunks of the own landing buffer that it will
write; the barrier wait returns the chunks of their landing buffers that this device will write. At the end the device
waits for its own block's copy and for its twelve copies' sources.
-/
module

public import proofs.«01_k».proof.Proof.Ideal.Recv

@[expose] public section

noncomputable section

namespace Cert.KernelIdeal.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => Prog (TpuEff nD τ sig (Elt F) Λ₀ Proc.tc) PUnit

variable (m : (ℓ : Loc nD τ sig) → Buf (Elt F) ℓ)

/-! ## The chunks, by copy and by receiver -/

/-- The twelve copies are three distances times four row chunks. -/
def copies : Fin 3 × Fin 4 ≃ Fin 12 := (Equiv.prodComm (Fin 3) (Fin 4)).trans (finProdFinEquiv (m := 4) (n := 3))

theorem copies_eq (p : Fin 3 × Fin 4) : copies p = ck p.2 p.1 := Fin.ext (by
  show p.1.val + 3 * p.2.val = 3 * p.2.val + p.1.val
  omega)

omit [FloatOps F] in
theorem bigSep_chunks (Φ : Fin 12 → sProp 𝕄) :
    bigSep Finset.univ Φ = bigSep Finset.univ fun j : Fin 3 => bigSep Finset.univ fun k : Fin 4 => Φ (ck k j) := by
  rw [bigSep_univ_equiv copies Φ, bigSep_univ_prod]
  exact bigSep_congr fun j _ => bigSep_congr fun k _ => by
    show Φ (copies (j, k)) = _
    rw [copies_eq]

/-- What the barrier wait returns: the receivers' chunks, one per copy. -/
def landing (c : Dev nD) (i : Fin 12) : sProp 𝕄 := iprop(∃ f, rbPts (peer c (i.val % 3 + 1)) i f)

omit [FloatOps F] in
theorem barPay_landing (c : Dev nD) : (bigSep Finset.univ fun j : Fin 3 => barPay (F := F) c j) = bigSep Finset.univ (landing c) := by
  rw [bigSep_chunks]
  refine bigSep_congr fun j _ => ?_
  unfold barPay
  refine bigSep_congr fun k _ => ?_
  unfold landing
  have h : (ck k j).val % 3 + 1 = j.val + 1 := by show (3 * k.val + j.val) % 3 + 1 = _; omega
  rw [h]

/-- What one signal hands over. -/
def give (c : Dev nD) (j : Fin 3) : sProp 𝕄 := bigSep Finset.univ fun k : Fin 4 => iprop(∃ f, rbPts c (ck k j) f)

omit [FloatOps F] in
theorem give_eq (c : Dev nD) (j : Fin 3) : give (F := F) c j = barPay (peer c (3 - j.val)) j := by
  unfold give barPay
  rw [peer_peer, peer_four c (k := 3 - j.val + (j.val + 1)) (by omega)]

/-! ## The handshake -/

theorem signal_step (K : Dev nD × CK → ℕ) (c n : Dev nD) (j : Fin 3) (hn : n = peer c (3 - j.val)) (z : ℤ) (hz : z = 1) (O : CellTallies nD τ sig Unit)
    (W : Waits sig Unit) {k : PUnit → ℙ} {Q : PUnit → sProp 𝕄} :
    iprop(env m K ∗ give c j ∗ dutyTok ER (barCell (peer c (3 - j.val))) 0 j ∗ owes (c : Thread nD τ) (O + owedB c (3 - j.val)) W)
      ⊢ iprop((owes (c : Thread nD τ) O W -∗ run c (k ⟨⟩) Q) -∗ run c (.op (.semSignal (n, Proc.tc) barS z) k) Q) := by
  subst hn hz
  have e₁ : env m K ⊢ cellInv ER (ringRd m) (K (peer c (3 - j.val), none)) (barCell (peer c (3 - j.val))) := env_inv m K (peer c (3 - j.val), none)
  have e₂ : env m K ⊢ reached ER (barCell (peer c (3 - j.val))) 0 := env_reached m K (peer c (3 - j.val), none)
  have hd : j ∈ (ringRd (F := F) m).duties (barCell (peer c (3 - j.val))) 0 := by rw [duties_bar]; exact Finset.mem_univ _
  iintro ⟨#HE, Hg, Ht, HO⟩ Hk
  iapply (Rounds.wp_signal 𝒱₀ ER (ringRd m) (c : Thread nD τ) none (dst := (peer c (3 - j.val) : Thread nD τ)) (κ := K (peer c (3 - j.val), none))
      (d := j) hd (amount_bar m (peer c (3 - j.val)) j) () O rfl) $$ [HO Ht Hg]
  · isplitr; · iapply e₁; iexact HE
    isplitl [HO]; · iexact HO
    isplitl [Ht]; · iexact Ht
    isplitl [Hg]
    · rw [payload_bar, ← give_eq]; iexact Hg
    iapply e₂; iexact HE
  iintro HO
  iapply Hk $$ HO

theorem lv_bar (c : Dev nD) : lv ((c : Thread nD τ), SemLoc.reg barS) () ≤ 1 := le_refl _

theorem wait_bar (K : Dev nD × CK → ℕ) (c : Dev nD) (z : ℤ) (hz : z = 3) (W : Waits sig Unit) {k : PUnit → ℙ} {Q : PUnit → sProp 𝕄} :
    iprop(env m K ∗ atPos ER (barCell c) 0 ∅ 0 ∗ cred (tallyAt (barCell c) () 3) ∗ owes (c : Thread nD τ) (owedR c 0) W)
      ⊢ iprop((bigSep Finset.univ (landing c) ∗ semVal (barCell c) 0 ∗ (∃ W, owes (c : Thread nD τ) (owedR c 0) W) -∗ run c (k ⟨⟩) Q)
        -∗ run c (.op (.semWait barS z) k) Q) := by
  subst hz
  have e₁ : env m K ⊢ cellInv ER (ringRd m) (K (c, none)) (barCell c) := env_inv m K (c, none)
  have hm := env_mayWait m K c 0 (.reg barS) (lv_bar c)
  iintro ⟨#HE, Hat, Hc, HO⟩ Hk
  iapply (Rounds.wp_wait_rest_token 𝒱₀ ER (ringRd m) (c : Thread nD τ) none (κ := K (c, none))
      (wpE_semWait_eq 𝒱₀ (c : Thread nD τ) none Set.univ) (Set.mem_univ _) () (O := owedR c 0) (W := W) (R := 0) (m := 0) (T := ∅)
      (by rw [expect_bar])) $$ [Hc HO Hat]
  · isplitr; · iapply e₁; iexact HE
    isplitl [Hc]; · iexact Hc
    isplitl [HO]; · iexact HO
    isplitr; · iapply hm; iexact HE
    iexact Hat
  iintro ⟨HO, Hat, -, Hpay⟩
  ihave Hp := (Entails.of_eq ((rest_bar m c).trans (barPay_landing c))) $$ Hpay
  imod (Rounds.cell_close ER (ringRd m) (Set.mem_univ (K (c, none))) (fun h => h) (R := 0 + 1) (duties_later m (barCell c))) $$ [Hat] with Hz
  · isplitr; · iapply e₁; iexact HE
    iexact Hat
  iapply Hk
  isplitl [Hp]; · iexact Hp
  isplitl [Hz]; · iexact Hz
  iexists _; iexact HO

/-! ## The device's own block -/

def xkWin (c : Dev nD) : sProp 𝕄 := (xKeep c).view.loc (c : Thread nD τ) ↦[(xKeep c).view.set]{qK} xv m c
def xkRest (c : Dev nD) : sProp 𝕄 := ((c : Thread nD τ).loc main_arg0) ↦[Finset.univ \ (xKeep c).view.set]{qK} xv m c

omit [FloatOps F] in
theorem xTok_keep (c : Dev nD) : xTok m c qK ⊣⊢ iprop(xkWin m c ∗ xkRest m c) := by
  unfold xTok xkWin xkRest
  exact pointsTo_split_subset (Finset.subset_univ _)

/-- The own block on its way. -/
def busyK (c : Dev nD) : sProp 𝕄 :=
  iprop(Transfers.Flight EC (c : Thread nD τ) (.dma keepS) () NK iprop(okPts c (oVal m c) ∗ xkWin m c) ∗ xkRest m c)

theorem start_keep (c : Dev nD) {off : Fin 2 → ℕ} {inb} (hoff : off = xKeepOff c) {offo : Fin 2 → ℕ} {inbo} (hoffo : offo = oKeepOff c)
    {h1 h2 h3} {k : PUnit → ℙ} {Q : PUnit → sProp 𝕄} :
    iprop(xTok m c qK ∗ (∃ f, okPts c f) ∗ semVal ((c : Thread nD τ), SemLoc.dma keepS) 0)
      ⊢ iprop((busyK m c -∗ run c (k ⟨⟩) Q)
        -∗ run c (.op (.enqueueDma (xKeepM off inb) (.here (oKeepM offo inbo)) (.dma keepS) h1 h2 h3) k) Q) := by
  subst hoff hoffo
  unfold busyK
  iintro ⟨Hx, ⟨%f, Ho⟩, Hs⟩ Hk
  ihave Hx := (xTok_keep m c).1 $$ Hx
  icases Hx with ⟨Hw, Hr⟩
  unfold okPts xkWin
  iapply (Transfers.wp_dmaLocal EC 𝒱₀ (c : Thread nD τ) none (fd := f) () NK rfl NK_pos (Finset.Subset.refl _)) $$ [Hw Ho Hs]
  · isplitl [Hw]; · iexact Hw
    isplitl [Ho] <;> iassumption
  iintro HF
  iapply Hk
  isplitl [HF]
  · iapply (Transfers.Flight_mono EC ?_) $$ HF
    refine sep_mono_left (Entails.of_eq (pointsTo_congr fun x hx => ?_))
    exact write_keep m c f x hx
  iexact Hr

theorem wait_keep (c : Dev nD) {sp' : Space} {s₁ : Shape} {e₁ : EltTy}
    {srcw : Memref sig .tc sp' s₁ e₁} {off : Fin 2 → ℕ} {inb} {h1 : srcw.view.WordExact} {h2 : (oKeepM off inb).view.WordExact}
    {k : PUnit → ℙ} {Q : PUnit → sProp 𝕄} :
    iprop(busyK m c ∗ ∃ W, owes (c : Thread nD τ) 0 W)
      ⊢ iprop((okPts c (oVal m c) ∗ xTok m c qK ∗ semVal ((c : Thread nD τ), SemLoc.dma keepS) 0 ∗ (∃ W, owes (c : Thread nD τ) 0 W) -∗ run c (k ⟨⟩) Q)
          -∗ run c (.op (.waitDma2 keepS srcw (oKeepM off inb) h1 h2) k) Q) := by
  unfold busyK
  iintro ⟨⟨HF, Hr⟩, ⟨%W, HO⟩⟩ Hk
  iapply (Transfers.wp_waitLocal EC 𝒱₀ (c : Thread nD τ) none () (show (oKeepM off inb).view.dmaCredit = NK from rfl) (W := W)) $$ [HF HO]
  · isplitl [HF] <;> iassumption
  iintro ⟨⟨Ho, Hw⟩, Hs, HO⟩
  iapply Hk
  isplitl [Ho]; · iexact Ho
  isplitl [Hw Hr]
  · iapply (xTok_keep m c).2
    isplitl [Hw] <;> iassumption
  isplitl [Hs]; · iexact Hs
  iexists _; iexact HO

/-! ## The last stores and the copies' sources -/

/-- The wait for the last store from a slot. -/
theorem drain (c : Dev nD) (j : Fin 12) (s : Fin 2) {sem : DmaSem sig} (hsem : sem = oS s) {sp' : Space} {s₁ : Shape} {e₁ : EltTy}
    {srcw : Memref sig .tc sp' s₁ e₁} {off : Fin 2 → ℕ} {inb} {h1 : srcw.view.WordExact} {h2 : (oM off inb).view.WordExact}
    {k : PUnit → ℙ} {Q : PUnit → sProp 𝕄} :
    iprop(busyO m c j s ∗ done j.val (outR m c) ∗ ∃ W, owes (c : Thread nD τ) 0 W)
      ⊢ iprop((done (j.val + 1) (outR m c) ∗ idleO c s ∗ (∃ W, owes (c : Thread nD τ) 0 W) -∗ run c (k ⟨⟩) Q)
          -∗ run c (.op (.waitDma2 sem srcw (oM off inb) h1 h2) k) Q) := by
  iintro ⟨HB, HD, ⟨%W, HO⟩⟩ Hk
  iapply (wait_store m c j s hsem (show (oM off inb).view.dmaCredit = NO from rfl) W) $$ [HB HO]
  · isplitl [HB] <;> iassumption
  iintro ⟨Ho, HI, HO⟩
  iapply Hk
  isplitl [Ho HD]
  · iapply (Entails.of_eq (done_step j (outR m c)).symm)
    unfold outR
    isplitl [Ho] <;> iassumption
  isplitl [HI]; · iexact HI
  iexists _; iexact HO

/-- What the wait for copy `i`'s source starts from, and what it leaves. -/
def preE (c : Dev nD) (i : Fin 12) : sProp 𝕄 := iprop(atPos ER (sendCell c i) 0 ∅ 0 ∗ postS c i)
def postE (c : Dev nD) (i : Fin 12) : sProp 𝕄 := iprop(vsPts c i (vsVal m c) ∗ semVal (sendCell c i) 0)
def endSt (K : Dev nD × CK → ℕ) (c : Dev nD) (n : ℕ) : sProp 𝕄 :=
  iprop(env m K ∗ todo n (preE c) ∗ done n (postE m c) ∗ ∃ W, owes (c : Thread nD τ) 0 W)

theorem wait_send (K : Dev nD × CK → ℕ) (c : Dev nD) (i : Fin 12) {sem : DmaSem sig} (hsem : sem = sendS i) {sp' : Space} {s₁ : Shape} {e₁ : EltTy}
    {srcw : Memref sig .tc sp' s₁ e₁} {off : Fin 3 → ℕ} {inb} {h1 : srcw.view.WordExact} {h2 : (vsM off inb).view.WordExact}
    {k : PUnit → ℙ} {Q : PUnit → sProp 𝕄} :
    endSt m K c i.val
      ⊢ iprop((endSt m K c (i.val + 1) -∗ run c (k ⟨⟩) Q) -∗ run c (.op (.waitDma2 sem srcw (vsM off inb) h1 h2) k) Q) := by
  subst hsem
  unfold endSt
  iintro ⟨#HE, HT, HD, ⟨%W, HO⟩⟩ Hk
  ihave HT := (Entails.of_eq (todo_step i (preE c))) $$ HT
  icases HT with ⟨HP, HT⟩
  unfold preE postS
  icases HP with ⟨Hat, Hc⟩
  iapply (wait_cell m K c (some (false, i)) _ rfl (expect_send m c i) (duties_later m (sendCell c i)) (rest_send m c i) (show (vsM off inb).view.dmaCredit = N from rfl) W) $$ [Hat Hc HO]
  · isplitr; · iexact HE
    isplitl [Hat]; · iexact Hat
    isplitl [Hc] <;> iassumption
  iintro ⟨Hvs, Hz, HO⟩
  iapply Hk
  isplitr; · iexact HE
  isplitl [HT]; · iexact HT
  isplitl [HD Hvs Hz]
  · iapply (Entails.of_eq (done_step i (postE m c)).symm)
    isplitr [HD]
    · unfold postE
      isplitl [Hvs] <;> iassumption
    iexact HD
  iexists _; iexact HO

end Cert.KernelIdeal.AllToAll

end
-- ==== Proof.Ideal.Pieces.lean ====
/-
# The buffers, cut into pieces and put together again

At launch a device owns its buffers whole. The exchange works on their chunks, slots and windows; at the end the pieces make
up the whole buffers again.
-/
module

public import proofs.«01_k».proof.Proof.Ideal.Ends
public import Idealize.ShloMosaic.Lib.Ring

@[expose] public section

noncomputable section

namespace Cert.KernelIdeal.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => Prog (TpuEff nD τ sig (Elt F) Λ₀ Proc.tc) PUnit

variable (m : (ℓ : Loc nD τ sig) → Buf (Elt F) ℓ)

/-! ## Cutting and joining along a cover -/

omit [FloatOps F] in
theorem into_some {T : Type} (Φ : T → sProp 𝕄) (f : T) : Φ f ⊢ iprop(∃ f, Φ f) := by
  iintro H; iexists f; iexact H

omit [FloatOps F] in
theorem pair_eq (Φ : Fin 2 → sProp 𝕄) : bigSep Finset.univ Φ = iprop(Φ 0 ∗ Φ 1) := BI.bigSep_fin_two Φ

section Cover
variable {ℓ : Loc nD τ sig} {B : Type} [Fintype B] [DecidableEq B] (I : B → Finset (Idx ℓ))
  (hd : ∀ b b', b ≠ b' → Disjoint (I b) (I b')) (hc : Finset.univ.biUnion I = Finset.univ)

omit [FloatOps F] in
include hd hc in
theorem cut {q : PosShare TreeShare} : iprop(∃ f : Buf (Elt F) ℓ, ℓ ↦{q} f) ⊢ (bigSep Finset.univ fun b => iprop(∃ f : Buf (Elt F) ℓ, ℓ ↦[I b]{q} f) : sProp 𝕄) := by
  have h : ∀ f : Buf (Elt F) ℓ, (ℓ ↦{q} f : sProp 𝕄) ⊢ bigSep Finset.univ fun b => iprop(∃ f : Buf (Elt F) ℓ, ℓ ↦[I b]{q} f) := fun f =>
    (Entails.of_eq (Ring.pointsTo_blocks I hd hc f)).trans (bigSep_mono fun b _ => into_some (fun f : Buf (Elt F) ℓ => ℓ ↦[I b]{q} f) f)
  iintro ⟨%f, H⟩
  iapply (h f) $$ H

omit [FloatOps F] in
include hd hc in
theorem joined {q : PosShare TreeShare} (f₀ : Buf (Elt F) ℓ) :
    (bigSep Finset.univ fun b => iprop(∃ f : Buf (Elt F) ℓ, ℓ ↦[I b]{q} f) : sProp 𝕄) ⊢ iprop(∃ f : Buf (Elt F) ℓ, ℓ ↦{q} f) :=
  Ring.pointsTo_blocks_join_exists I hd hc f₀

omit [FloatOps F] hc in
include hd in
theorem cut_part (S : Finset (Idx ℓ)) (hc : Finset.univ.biUnion I = S) {q : PosShare TreeShare} (f : Buf (Elt F) ℓ) :
    (bigSep Finset.univ fun b => ℓ ↦[I b]{q} f : sProp 𝕄) = (ℓ ↦[S]{q} f) := by
  rw [← pointsTo_biUnion Finset.univ I (fun b _ b' _ h => hd b b' h), hc]

end Cover

/-- A buffer of device `c`, owned whole at some contents. -/
def some' (c : Dev nD) (b : Ref sig .tc) : sProp 𝕄 := iprop(∃ f : Buf (Elt F) ((c : Thread nD τ).loc b), ((c : Thread nD τ).loc b) ↦{fullShare} f)

section
variable (c : Dev nD)

omit [FloatOps F] in
theorem rbPts_eq (i f) : rbPts (F := F) c i f = (((c : Thread nD τ).loc main_v1_1) ↦[(rbC i).view.set]{fullShare} f) := rfl
omit [FloatOps F] in
theorem vsPts_eq (i f) : vsPts (F := F) c i f = (((c : Thread nD τ).loc cc0_scratch0) ↦[(vsC i).view.set]{fullShare} f) := rfl
omit [FloatOps F] in
theorem vaPts_eq (i f) : vaPts (F := F) c i f = (((c : Thread nD τ).loc cc0_scratch1) ↦[(vaC i).view.set]{fullShare} f) := rfl
omit [FloatOps F] in
theorem voPts_eq (i f) : voPts (F := F) c i f = (((c : Thread nD τ).loc cc0_scratch3) ↦[(voC i).view.set]{fullShare} f) := rfl
omit [FloatOps F] in
theorem vbPts_eq (f) : vbPts (F := F) c f = (((c : Thread nD τ).loc cc0_scratch2) ↦{fullShare} f) := rfl
omit [FloatOps F] in
theorem oPts_eq (i f) : oPts (F := F) c i f = (((c : Thread nD τ).loc main_v1_0) ↦[(oC c i).view.set]{fullShare} f) := rfl
omit [FloatOps F] in
theorem okPts_eq (f) : okPts (F := F) c f = (((c : Thread nD τ).loc main_v1_0) ↦[(oKeep c).view.set]{fullShare} f) := rfl

omit [FloatOps F] in
theorem rb_cut : some' c main_v1_1 ⊢ (bigSep Finset.univ fun j : Fin 3 => give (F := F) c j) := by
  have h : some' c main_v1_1 ⊢ bigSep Finset.univ fun i : Fin 12 => iprop(∃ f, rbPts (F := F) c i f) := by
    unfold some'; simp only [rbPts_eq]
    exact cut (ℓ := (c : Thread nD τ).loc main_v1_1) (fun i : Fin 12 => (rbC i).view.set) rb_disj rb_cover
  rw [bigSep_chunks] at h
  exact h

omit [FloatOps F] in
theorem vs_cut : some' c cc0_scratch0 ⊢ (bigSep Finset.univ fun i : Fin 12 => iprop(∃ f, vsPts (F := F) c i f)) := by
  unfold some'; simp only [vsPts_eq]
  exact cut (ℓ := (c : Thread nD τ).loc cc0_scratch0) (fun i : Fin 12 => (vsC i).view.set) vs_disj vs_cover
omit [FloatOps F] in
theorem vs_join (f₀ : S3x4096x1024.Idx → Elt F .bf16) : (bigSep Finset.univ fun i : Fin 12 => iprop(∃ f, vsPts (F := F) c i f)) ⊢ some' c cc0_scratch0 := by
  unfold some'; simp only [vsPts_eq]
  exact joined (ℓ := (c : Thread nD τ).loc cc0_scratch0) (fun i : Fin 12 => (vsC i).view.set) vs_disj vs_cover f₀

omit [FloatOps F] in
theorem va_cut : some' c cc0_scratch1 ⊢ (iprop((∃ f, vaPts (F := F) c 0 f) ∗ ∃ f, vaPts c 1 f)) := by
  rw [← pair_eq fun s : Fin 2 => iprop(∃ f, vaPts (F := F) c s f)]
  unfold some'; simp only [vaPts_eq]
  exact cut (ℓ := (c : Thread nD τ).loc cc0_scratch1) (fun i : Fin 2 => (vaC i).view.set) va_disj va_cover
omit [FloatOps F] in
theorem va_join (f₀ : S2x1024x1024.Idx → Elt F .f32) : (iprop((∃ f, vaPts (F := F) c 0 f) ∗ ∃ f, vaPts c 1 f)) ⊢ some' c cc0_scratch1 := by
  rw [← pair_eq fun s : Fin 2 => iprop(∃ f, vaPts (F := F) c s f)]
  unfold some'; simp only [vaPts_eq]
  exact joined (ℓ := (c : Thread nD τ).loc cc0_scratch1) (fun i : Fin 2 => (vaC i).view.set) va_disj va_cover f₀

omit [FloatOps F] in
theorem vo_cut : some' c cc0_scratch3 ⊢ (iprop((∃ f, voPts (F := F) c 0 f) ∗ ∃ f, voPts c 1 f)) := by
  rw [← pair_eq fun s : Fin 2 => iprop(∃ f, voPts (F := F) c s f)]
  unfold some'; simp only [voPts_eq]
  exact cut (ℓ := (c : Thread nD τ).loc cc0_scratch3) (fun i : Fin 2 => (voC i).view.set) vo_disj vo_cover
omit [FloatOps F] in
theorem vo_join (f₀ : S2x1024x1024.Idx → Elt F .f32) : (iprop((∃ f, voPts (F := F) c 0 f) ∗ ∃ f, voPts c 1 f)) ⊢ some' c cc0_scratch3 := by
  rw [← pair_eq fun s : Fin 2 => iprop(∃ f, voPts (F := F) c s f)]
  unfold some'; simp only [voPts_eq]
  exact joined (ℓ := (c : Thread nD τ).loc cc0_scratch3) (fun i : Fin 2 => (voC i).view.set) vo_disj vo_cover f₀

omit [FloatOps F] in
theorem vb_eq : some' c cc0_scratch2 = iprop(∃ f, vbPts (F := F) c f) := by
  unfold some'; simp only [vbPts_eq]; rfl

omit [FloatOps F] in
/-- The result whole is its twelve windows and the device's own block. -/
theorem o_pieces (f : S16384x1024.Idx → Elt F .f32) :
    (((c : Thread nD τ).loc main_v1_0) ↦{fullShare} f : sProp 𝕄) ⊣⊢ iprop((bigSep Finset.univ fun j : Fin 12 => oPts c j f) ∗ okPts c f) := by
  have e : (bigSep Finset.univ fun j : Fin 12 => oPts c j f)
      = (((c : Thread nD τ).loc main_v1_0) ↦[Finset.univ \ (oKeep c).view.set]{fullShare} f : sProp 𝕄) := by
    simp only [oPts_eq]
    exact cut_part (ℓ := (c : Thread nD τ).loc main_v1_0) (fun j : Fin 12 => (oC c j).view.set) (o_disj c) _ (o_cover c) f
  have h : (((c : Thread nD τ).loc main_v1_0) ↦{fullShare} f : sProp 𝕄)
      ⊣⊢ iprop((((c : Thread nD τ).loc main_v1_0) ↦[(oKeep c).view.set]{fullShare} f) ∗ (((c : Thread nD τ).loc main_v1_0) ↦[Finset.univ \ (oKeep c).view.set]{fullShare} f)) :=
    pointsTo_split_subset (Finset.subset_univ _)
  rw [e, okPts_eq]
  exact ⟨h.1.trans sep_comm.1, sep_comm.1.trans h.2⟩

omit [FloatOps F] in
theorem o_cut : some' c main_v1_0 ⊢ iprop((bigSep Finset.univ fun j : Fin 12 => iprop(∃ f, oPts (F := F) c j f)) ∗ ∃ f, okPts c f) := by
  have h : ∀ f : S16384x1024.Idx → Elt F .f32, (bigSep Finset.univ fun j : Fin 12 => oPts c j f)
      ⊢ (bigSep Finset.univ fun j : Fin 12 => iprop(∃ f, oPts (F := F) c j f)) := fun f => bigSep_mono fun j _ => into_some (fun f => oPts (F := F) c j f) f
  unfold some'
  iintro ⟨%f, H⟩
  ihave H := (o_pieces c f).1 $$ H
  icases H with ⟨H, Hk⟩
  isplitl [H]
  · iapply (h f) $$ H
  iexists f; iexact Hk

/-- The result, whole, holding what it should. -/
theorem o_join : iprop((bigSep Finset.univ (outR m c)) ∗ okPts c (oVal m c)) ⊢ (((c : Thread nD τ).loc main_v1_0) ↦{fullShare} oVal m c : sProp 𝕄) := by
  unfold outR
  exact (o_pieces c (oVal m c)).2

end

end Cert.KernelIdeal.AllToAll

end
-- ==== Proof.Ideal.Phases.lean ====
/-
# The phases, joined

What each phase starts from is what the launch and the phases before it have left; what the last one leaves is what a
device ends with.
-/
module

public import proofs.«01_k».proof.Proof.Ideal.Pieces

@[expose] public section

noncomputable section

namespace Cert.KernelIdeal.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => Prog (TpuEff nD τ sig (Elt F) Λ₀ Proc.tc) PUnit

variable (m : (ℓ : Loc nD τ sig) → Buf (Elt F) ℓ)

/-! ## What a device starts from -/

/-- The receipts for the own cells, and the tokens of the duties to be paid on all of them. -/
def sendP (c : Dev nD) : sProp 𝕄 := bigSep Finset.univ fun i : Fin 12 => atPos ER (sendCell c i) 0 ∅ 0
def recvP (c : Dev nD) : sProp 𝕄 := bigSep Finset.univ fun i : Fin 12 => atPos ER (recvCell c i) 0 ∅ 0
def tokB (c : Dev nD) : sProp 𝕄 := bigSep Finset.univ fun j : Fin 3 => dutyTok ER (barCell (peer c (3 - j.val))) 0 j
def tokS (c : Dev nD) : sProp 𝕄 := bigSep Finset.univ fun i : Fin 12 => dutyTok ER (sendCell c i) 0 0
def tokR (c : Dev nD) : sProp 𝕄 := bigSep Finset.univ fun i : Fin 12 => dutyTok ER (recvCell (peer c (i.val % 3 + 1)) i) 0 0

/-- The device's part of the protocol. -/
def ghost (c : Dev nD) : sProp 𝕄 := iprop(atPos ER (barCell c) 0 ∅ 0 ∗ sendP c ∗ recvP c ∗ tokB c ∗ tokS c ∗ tokR c)

/-- The credit for the landings it waits for. -/
def credR (c : Dev nD) : sProp 𝕄 := bigSep Finset.univ fun i : Fin 12 => cred (tallyAt (recvCell c i) () N)

/-- The four scratch buffers, at some contents. -/
def scratch (c : Dev nD) : sProp 𝕄 := iprop(some' c cc0_scratch0 ∗ some' c cc0_scratch1 ∗ some' c cc0_scratch2 ∗ some' c cc0_scratch3)

/-- The counters of the device's local copies. -/
def localSems (c : Dev nD) : sProp 𝕄 :=
  iprop(semVal ((c : Thread nD τ), SemLoc.dma keepS) 0 ∗ semVal ((c : Thread nD τ), SemLoc.dma (aS 0)) 0 ∗ semVal ((c : Thread nD τ), SemLoc.dma (aS 1)) 0
    ∗ semVal ((c : Thread nD τ), SemLoc.dma bS) 0 ∗ semVal ((c : Thread nD τ), SemLoc.dma (oS 0)) 0 ∗ semVal ((c : Thread nD τ), SemLoc.dma (oS 1)) 0)
/-- The counters of its send and receive cells. -/
def cellSems (c : Dev nD) : sProp 𝕄 :=
  iprop((bigSep Finset.univ fun i : Fin 12 => semVal (sendCell c i) 0) ∗ bigSep Finset.univ fun i : Fin 12 => semVal (recvCell c i) 0)

/-- The device's memory at the start: the argument; the result, the landing buffer and the scratch buffers at some contents. -/
def memIn (c : Dev nD) : sProp 𝕄 := iprop(xTok m c fullShare ∗ some' c main_v1_0 ∗ some' c main_v1_1 ∗ scratch c)

def bodyIn (K : Dev nD × CK → ℕ) (c : Dev nD) : sProp 𝕄 :=
  iprop(env m K ∗ ghost c ∗ cred (tallyAt (barCell c) () 3) ∗ credR c ∗ memIn m c ∗ localSems c ∗ ∃ W, owes (c : Thread nD τ) (O₀ c) W)

/-- A share of the argument, unchanged, and the result as it should be. -/
def memOut (c : Dev nD) : sProp 𝕄 := iprop(xTok m c qK ∗ ((c : Thread nD τ).loc main_v1_0) ↦{fullShare} oVal m c)

def bodyOut (c : Dev nD) : sProp 𝕄 :=
  iprop(memOut m c ∗ scratch c ∗ localSems c ∗ cellSems c ∗ semVal (barCell c) 0 ∗ ∃ W, owes (c : Thread nD τ) 0 W)

/-! ## From phase to phase -/

omit [FloatOps F] in
theorem three_eq (Φ : Fin 3 → sProp 𝕄) : bigSep Finset.univ Φ = iprop(Φ 0 ∗ Φ 1 ∗ Φ 2) :=
  bigSep_univ_eq_bigSepL [0, 1, 2] (by decide) (by decide) Φ

omit [FloatOps F] in
theorem done_none (Φ : Fin 12 → sProp 𝕄) : (iprop(emp) : sProp 𝕄) ⊢ done 0 Φ := Entails.of_eq (done_zero Φ).symm

omit [FloatOps F] in
theorem idleO_intro (c : Dev nD) (s : Fin 2) : iprop((∃ f, voPts (F := F) c s f) ∗ semVal ((c : Thread nD τ), SemLoc.dma (oS s)) 0) ⊢ idleO c s :=
  Entails.of_eq rfl

theorem send_start (K : Dev nD × CK → ℕ) (c : Dev nD) :
    iprop(env m K ∗ (bigSep Finset.univ fun i : Fin 12 => iprop(∃ f, vsPts (F := F) c i f)) ∗ bigSep Finset.univ (landing c) ∗ tokS c ∗ tokR c
      ∗ ∃ W, owes (c : Thread nD τ) (owedR c 0) W) ⊢ sendSt m K c 0 := by
  have e : todo 0 (preS (F := F) c) = iprop((bigSep Finset.univ fun i : Fin 12 => iprop(∃ f, vsPts (F := F) c i f)) ∗ bigSep Finset.univ (landing c) ∗ tokS c ∗ tokR c) := by
    rw [todo_zero]
    unfold preS tokS tokR
    rw [bigSep_sep', bigSep_sep', bigSep_sep']
    rfl
  unfold sendSt
  rw [e, done_zero]
  iintro ⟨HE, Hv, Hl, Hs, Hr, HO⟩
  isplitl [HE]; · iexact HE
  isplitl [Hv Hl Hs Hr]
  · isplitl [Hv]; · iexact Hv
    isplitl [Hl]; · iexact Hl
    isplitl [Hs] <;> iassumption
  isplitr; · itrivial
  iexact HO

theorem send_done (K : Dev nD × CK → ℕ) (c : Dev nD) :
    sendSt m K c 12 ⊢ iprop(bigSep Finset.univ (postS (F := F) c) ∗ ∃ W, owes (c : Thread nD τ) 0 W) := by
  unfold sendSt
  rw [done_end, owedR_end]
  iintro ⟨-, -, Hd, HO⟩
  isplitl [Hd] <;> iassumption

theorem recv_start (K : Dev nD × CK → ℕ) (c : Dev nD) :
    iprop(env m K ∗ recvP c ∗ credR c ∗ (bigSep Finset.univ fun j : Fin 12 => iprop(∃ f, oPts (F := F) c j f)) ∗ (∃ f, vbPts c f)
      ∗ semVal ((c : Thread nD τ), SemLoc.dma bS) 0 ∗ ∃ W, owes (c : Thread nD τ) 0 W) ⊢ recvSt m K c 0 := by
  have e : todo 0 (preR (F := F) c) = iprop(recvP c ∗ credR c ∗ bigSep Finset.univ fun j : Fin 12 => iprop(∃ f, oPts (F := F) c j f)) := by
    rw [todo_zero]
    unfold preR recvP credR
    rw [bigSep_sep', bigSep_sep']
  unfold recvSt
  rw [e, done_zero]
  iintro ⟨HE, Hp, Hc, Ho, Hv, Hb, HO⟩
  isplitl [HE]; · iexact HE
  isplitl [Hp Hc Ho]
  · isplitl [Hp]; · iexact Hp
    isplitl [Hc] <;> iassumption
  isplitr; · itrivial
  isplitl [Hv]; · iexact Hv
  isplitl [Hb] <;> iassumption

theorem recv_done (K : Dev nD × CK → ℕ) (c : Dev nD) :
    recvSt m K c 12 ⊢ iprop((bigSep Finset.univ fun i : Fin 12 => semVal (recvCell c i) 0) ∗ (∃ f, vbPts c f)
      ∗ semVal ((c : Thread nD τ), SemLoc.dma bS) 0 ∗ ∃ W, owes (c : Thread nD τ) 0 W) := by
  unfold recvSt
  rw [done_end]
  unfold postR
  rw [bigSep_sep']
  iintro ⟨-, -, ⟨-, Hs⟩, Hv, Hb, HO⟩
  isplitl [Hs]; · iexact Hs
  isplitl [Hv]; · iexact Hv
  isplitl [Hb] <;> iassumption

theorem end_start (K : Dev nD × CK → ℕ) (c : Dev nD) :
    iprop(env m K ∗ sendP c ∗ bigSep Finset.univ (postS (F := F) c) ∗ ∃ W, owes (c : Thread nD τ) 0 W) ⊢ endSt m K c 0 := by
  have e : todo 0 (preE (F := F) c) = iprop(sendP c ∗ bigSep Finset.univ (postS (F := F) c)) := by
    rw [todo_zero]
    unfold preE sendP
    rw [bigSep_sep']
  unfold endSt
  rw [e, done_zero]
  iintro ⟨HE, Hp, Hc, HO⟩
  isplitl [HE]; · iexact HE
  isplitl [Hp Hc]
  · isplitl [Hp] <;> iassumption
  isplitr; · itrivial
  iexact HO

theorem end_done (K : Dev nD × CK → ℕ) (c : Dev nD) :
    endSt m K c 12 ⊢ iprop((bigSep Finset.univ fun i : Fin 12 => iprop(∃ f, vsPts (F := F) c i f)) ∗ (bigSep Finset.univ fun i : Fin 12 => semVal (sendCell c i) 0)
      ∗ ∃ W, owes (c : Thread nD τ) 0 W) := by
  have h : (bigSep Finset.univ fun i : Fin 12 => vsPts c i (vsVal m c)) ⊢ (bigSep Finset.univ fun i : Fin 12 => iprop(∃ f, vsPts (F := F) c i f)) :=
    bigSep_mono fun i _ => into_some (fun f => vsPts (F := F) c i f) (vsVal m c)
  unfold endSt
  rw [done_end]
  unfold postE
  rw [bigSep_sep']
  iintro ⟨-, -, ⟨Hv, Hs⟩, HO⟩
  isplitl [Hv]; · iapply h $$ Hv
  isplitl [Hs] <;> iassumption

end Cert.KernelIdeal.AllToAll

end
-- ==== Proof.Ideal.Run.lean ====
/-
# The kernel, run on one device

The kernel's operations in order, on device `c`: three signals, the copy of its own block and the first two loads started,
the barrier wait, twelve send steps, twelve receive steps, and the waits for what is still on its way.
-/
module

public import proofs.«01_k».proof.Proof.Ideal.Phases
public import proofs.«01_k».proof.Proof.Gen.KernelIdeal.Points

@[expose] public section

noncomputable section

namespace Cert.KernelIdeal.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => Prog (TpuEff nD τ sig (Elt F) Λ₀ Proc.tc) PUnit

variable (m : (ℓ : Loc nD τ sig) → Buf (Elt F) ℓ)

theorem send_to (c : Dev nD) (i : Fin 12) (h : sendDev i c < nD) : (⟨sendDev i c, h⟩ : Dev nD) = peer c (i.val % 3 + 1) := Fin.ext (sendDev_eq i c)

set_option maxHeartbeats 16000000 in
set_option maxRecDepth 20000 in
theorem sound_body (K : Dev nD × CK → ℕ) (c : Dev nD) (t : Fin cfg0.N) (Kt : PUnit → sProp 𝕄) :
    iprop(bodyIn m K c ∗ (bodyOut m c -∗ Kt ⟨⟩)) ⊢ wp frame (wpE (defs₀ (F := F)) 𝒱₀ (c : Thread nD τ) none) Set.univ (bodyAt0 (F := F) t) Kt := by
  unfold bodyAt0
  simp only [cc0_body_eq_skeleton]; unfold cc0_body_skel
  simp only [k0_part45_eq_skeleton]; unfold k0_part45_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton, k0_part35_eq_skeleton, k0_part36_eq_skeleton,
    k0_part37_eq_skeleton, k0_part38_eq_skeleton, k0_part39_eq_skeleton, k0_part40_eq_skeleton, k0_part41_eq_skeleton, k0_part42_eq_skeleton,
    k0_part43_eq_skeleton, k0_part44_eq_skeleton]
  unfold k0_part1_skel k0_part2_skel k0_part3_skel k0_part4_skel k0_part5_skel k0_part6_skel k0_part7_skel k0_part8_skel k0_part9_skel k0_part10_skel
    k0_part11_skel k0_part12_skel k0_part13_skel k0_part14_skel k0_part15_skel k0_part16_skel k0_part17_skel k0_part18_skel k0_part19_skel k0_part20_skel
    k0_part21_skel k0_part22_skel k0_part23_skel k0_part24_skel k0_part25_skel k0_part26_skel k0_part27_skel k0_part28_skel k0_part29_skel k0_part30_skel
    k0_part31_skel k0_part32_skel k0_part33_skel k0_part34_skel k0_part35_skel k0_part36_skel k0_part37_skel k0_part38_skel k0_part39_skel k0_part40_skel
    k0_part41_skel k0_part42_skel k0_part43_skel k0_part44_skel
  simp only [semSignalWord, semWaitWord, Prog.lift, Prog.bind_op, Prog.bind_ret, Prog.pure_eq_ret, wp_deviceId]
  unfold bodyIn ghost memIn scratch localSems tokB
  iintro ⟨⟨#HE, ⟨Hbar, HsP, HrP, HtB, HtS, HtR⟩, Hcb, HcR, ⟨Hx, Ho, Hrb, Hvs, Hva, Hvb, Hvo⟩, ⟨HK, HA0, HA1, HB, HO0, HO1⟩, ⟨%W, HO⟩⟩, Hk⟩
  -- the handshake
  ihave Hrb := (rb_cut c) $$ Hrb
  ihave Hrb := (Entails.of_eq (three_eq fun j : Fin 3 => give (F := F) c j)) $$ Hrb
  ihave HtB := (Entails.of_eq (three_eq fun j : Fin 3 => dutyTok ER (barCell (peer c (3 - j.val))) 0 j)) $$ HtB
  icases Hrb with ⟨Hg0, Hg1, Hg2⟩
  icases HtB with ⟨Ht0, Ht1, Ht2⟩
  unfold O₀
  iapply (signal_step m K c _ 2 (dev1_eq c) _ rfl (owedR c 0 + owedB c 3 + owedB c 2) W) $$ [Hg2 Ht2 HO]
  · isplitr; · iexact HE
    isplitl [Hg2]; · iexact Hg2
    isplitl [Ht2]; · iexact Ht2
    iexact HO
  iintro HO
  iapply (signal_step m K c _ 1 (dev2_eq c) _ rfl (owedR c 0 + owedB c 3) W) $$ [Hg1 Ht1 HO]
  · isplitr; · iexact HE
    isplitl [Hg1]; · iexact Hg1
    isplitl [Ht1]; · iexact Ht1
    iexact HO
  iintro HO
  iapply (signal_step m K c _ 0 (dev3_eq c) _ rfl (owedR c 0) W) $$ [Hg0 Ht0 HO]
  · isplitr; · iexact HE
    isplitl [Hg0]; · iexact Hg0
    isplitl [Ht0]; · iexact Ht0
    iexact HO
  iintro HO
  -- the own block and the first two loads
  ihave Hx := (xTok_shares m c) $$ Hx
  icases Hx with ⟨HxK, HxA0, HxA1⟩
  ihave Ho := (o_cut c) $$ Ho
  icases Ho with ⟨Ho, Hok⟩
  ihave Hva := (va_cut c) $$ Hva
  icases Hva with ⟨Hva0, Hva1⟩
  iapply (start_keep m c (off2_eq c) (off1_eq c)) $$ [HxK Hok HK]
  · isplitl [HxK]; · iexact HxK
    isplitl [Hok] <;> iassumption
  iintro HK
  iapply (start_load m c 0 0 (loadOff_eq 0 c) rfl rfl) $$ [Hva0 HxA0 HA0]
  · unfold idleA
    isplitl [Hva0]; · iexact Hva0
    isplitl [HxA0] <;> iassumption
  iintro HA0
  iapply (start_load m c 1 1 (loadOff_eq 1 c) rfl rfl) $$ [Hva1 HxA1 HA1]
  · unfold idleA
    isplitl [Hva1]; · iexact Hva1
    isplitl [HxA1] <;> iassumption
  iintro HA1
  iapply (wait_bar m K c _ rfl W) $$ [Hbar Hcb HO]
  · isplitr; · iexact HE
    isplitl [Hbar]; · iexact Hbar
    isplitl [Hcb] <;> iassumption
  iintro ⟨Hl, Hbar, HO⟩
  -- the send phase
  ihave Hvs := (vs_cut c) $$ Hvs
  ihave HS := (send_start m K c) $$ [Hvs Hl HtS HtR HO]
  · isplitr; · iexact HE
    isplitl [Hvs]; · iexact Hvs
    isplitl [Hl]; · iexact Hl
    isplitl [HtS]; · iexact HtS
    isplitl [HtR] <;> iassumption
  iapply (step_more m K c _ 0 2 0 rfl rfl rfl (fun v y => narrow_pay v y) (loadOff_eq 2 c) rfl (send_to c 0 _) rfl rfl) $$ [HS HA0]
  · isplitl [HS]; · iexact HS
    iexact HA0
  iintro ⟨HS, HA0⟩
  iapply (step_more m K c _ 1 3 1 rfl rfl rfl (fun v y => narrow_pay v y) (loadOff_eq 3 c) rfl (send_to c 1 _) rfl rfl) $$ [HS HA1]
  · isplitl [HS]; · iexact HS
    iexact HA1
  iintro ⟨HS, HA1⟩
  iapply (step_more m K c _ 2 4 0 rfl rfl rfl (fun v y => narrow_pay v y) (loadOff_eq 4 c) rfl (send_to c 2 _) rfl rfl) $$ [HS HA0]
  · isplitl [HS]; · iexact HS
    iexact HA0
  iintro ⟨HS, HA0⟩
  iapply (step_more m K c _ 3 5 1 rfl rfl rfl (fun v y => narrow_pay v y) (loadOff_eq 5 c) rfl (send_to c 3 _) rfl rfl) $$ [HS HA1]
  · isplitl [HS]; · iexact HS
    iexact HA1
  iintro ⟨HS, HA1⟩
  iapply (step_more m K c _ 4 6 0 rfl rfl rfl (fun v y => narrow_pay v y) (loadOff_eq 6 c) rfl (send_to c 4 _) rfl rfl) $$ [HS HA0]
  · isplitl [HS]; · iexact HS
    iexact HA0
  iintro ⟨HS, HA0⟩
  iapply (step_more m K c _ 5 7 1 rfl rfl rfl (fun v y => narrow_pay v y) (loadOff_eq 7 c) rfl (send_to c 5 _) rfl rfl) $$ [HS HA1]
  · isplitl [HS]; · iexact HS
    iexact HA1
  iintro ⟨HS, HA1⟩
  iapply (step_more m K c _ 6 8 0 rfl rfl rfl (fun v y => narrow_pay v y) (loadOff_eq 8 c) rfl (send_to c 6 _) rfl rfl) $$ [HS HA0]
  · isplitl [HS]; · iexact HS
    iexact HA0
  iintro ⟨HS, HA0⟩
  iapply (step_more m K c _ 7 9 1 rfl rfl rfl (fun v y => narrow_pay v y) (loadOff_eq 9 c) rfl (send_to c 7 _) rfl rfl) $$ [HS HA1]
  · isplitl [HS]; · iexact HS
    iexact HA1
  iintro ⟨HS, HA1⟩
  iapply (step_more m K c _ 8 10 0 rfl rfl rfl (fun v y => narrow_pay v y) (loadOff_eq 10 c) rfl (send_to c 8 _) rfl rfl) $$ [HS HA0]
  · isplitl [HS]; · iexact HS
    iexact HA0
  iintro ⟨HS, HA0⟩
  iapply (step_more m K c _ 9 11 1 rfl rfl rfl (fun v y => narrow_pay v y) (loadOff_eq 11 c) rfl (send_to c 9 _) rfl rfl) $$ [HS HA1]
  · isplitl [HS]; · iexact HS
    iexact HA1
  iintro ⟨HS, HA1⟩
  iapply (step_last m K c _ 10 0 rfl rfl rfl (fun v y => narrow_pay v y) (send_to c 10 _) rfl rfl) $$ [HS HA0]
  · isplitl [HS]; · iexact HS
    iexact HA0
  iintro ⟨HS, HA0⟩
  iapply (step_last m K c _ 11 1 rfl rfl rfl (fun v y => narrow_pay v y) (send_to c 11 _) rfl rfl) $$ [HS HA1]
  · isplitl [HS]; · iexact HS
    iexact HA1
  iintro ⟨HS, HA1⟩
  ihave HS := (send_done m K c) $$ [HS]
  · iexact HS
  icases HS with ⟨HS, HO⟩
  -- the receive phase
  ihave Hvb := (Entails.of_eq (vb_eq c)) $$ Hvb
  ihave HR := (recv_start m K c) $$ [HrP HcR Ho Hvb HB HO]
  · isplitr; · iexact HE
    isplitl [HrP]; · iexact HrP
    isplitl [HcR]; · iexact HcR
    isplitl [Ho]; · iexact Ho
    isplitl [Hvb]; · iexact Hvb
    isplitl [HB] <;> iassumption
  ihave Hvo := (vo_cut c) $$ Hvo
  icases Hvo with ⟨Hvo0, Hvo1⟩
  ihave HO0 := (idleO_intro c 0) $$ [Hvo0 HO0]
  · isplitl [Hvo0] <;> iassumption
  ihave HO1 := (idleO_intro c 1) $$ [Hvo1 HO1]
  · isplitl [Hvo1] <;> iassumption
  iapply (recv_first m K c 0 0 rfl rfl rfl (fun _ _ => rfl) (storeOff_eq 0 c) rfl) $$ [HR HO0]
  · isplitl [HR]; · iexact HR
    iexact HO0
  iintro ⟨HR, HO0⟩
  iapply (recv_first m K c 1 1 rfl rfl rfl (fun _ _ => rfl) (storeOff_eq 1 c) rfl) $$ [HR HO1]
  · isplitl [HR]; · iexact HR
    iexact HO1
  iintro ⟨HR, HO1⟩
  ihave HD := (done_none (outR m c)) $$ []
  · itrivial
  iapply (recv_next m K c 2 0 0 rfl rfl rfl rfl (fun _ _ => rfl) (storeOff_eq 2 c) rfl) $$ [HR HO0 HD]
  · isplitl [HR]; · iexact HR
    isplitl [HO0]; · iexact HO0
    iexact HD
  iintro ⟨HR, HO0, HD⟩
  iapply (recv_next m K c 3 1 1 rfl rfl rfl rfl (fun _ _ => rfl) (storeOff_eq 3 c) rfl) $$ [HR HO1 HD]
  · isplitl [HR]; · iexact HR
    isplitl [HO1]; · iexact HO1
    iexact HD
  iintro ⟨HR, HO1, HD⟩
  iapply (recv_next m K c 4 2 0 rfl rfl rfl rfl (fun _ _ => rfl) (storeOff_eq 4 c) rfl) $$ [HR HO0 HD]
  · isplitl [HR]; · iexact HR
    isplitl [HO0]; · iexact HO0
    iexact HD
  iintro ⟨HR, HO0, HD⟩
  iapply (recv_next m K c 5 3 1 rfl rfl rfl rfl (fun _ _ => rfl) (storeOff_eq 5 c) rfl) $$ [HR HO1 HD]
  · isplitl [HR]; · iexact HR
    isplitl [HO1]; · iexact HO1
    iexact HD
  iintro ⟨HR, HO1, HD⟩
  iapply (recv_next m K c 6 4 0 rfl rfl rfl rfl (fun _ _ => rfl) (storeOff_eq 6 c) rfl) $$ [HR HO0 HD]
  · isplitl [HR]; · iexact HR
    isplitl [HO0]; · iexact HO0
    iexact HD
  iintro ⟨HR, HO0, HD⟩
  iapply (recv_next m K c 7 5 1 rfl rfl rfl rfl (fun _ _ => rfl) (storeOff_eq 7 c) rfl) $$ [HR HO1 HD]
  · isplitl [HR]; · iexact HR
    isplitl [HO1]; · iexact HO1
    iexact HD
  iintro ⟨HR, HO1, HD⟩
  iapply (recv_next m K c 8 6 0 rfl rfl rfl rfl (fun _ _ => rfl) (storeOff_eq 8 c) rfl) $$ [HR HO0 HD]
  · isplitl [HR]; · iexact HR
    isplitl [HO0]; · iexact HO0
    iexact HD
  iintro ⟨HR, HO0, HD⟩
  iapply (recv_next m K c 9 7 1 rfl rfl rfl rfl (fun _ _ => rfl) (storeOff_eq 9 c) rfl) $$ [HR HO1 HD]
  · isplitl [HR]; · iexact HR
    isplitl [HO1]; · iexact HO1
    iexact HD
  iintro ⟨HR, HO1, HD⟩
  iapply (recv_next m K c 10 8 0 rfl rfl rfl rfl (fun _ _ => rfl) (storeOff_eq 10 c) rfl) $$ [HR HO0 HD]
  · isplitl [HR]; · iexact HR
    isplitl [HO0]; · iexact HO0
    iexact HD
  iintro ⟨HR, HO0, HD⟩
  iapply (recv_next m K c 11 9 1 rfl rfl rfl rfl (fun _ _ => rfl) (storeOff_eq 11 c) rfl) $$ [HR HO1 HD]
  · isplitl [HR]; · iexact HR
    isplitl [HO1]; · iexact HO1
    iexact HD
  iintro ⟨HR, HO1, HD⟩
  ihave HR := (recv_done m K c) $$ [HR]
  · iexact HR
  icases HR with ⟨HsR, Hvb, HB, HO⟩
  -- what is still on its way
  iapply (drain m c 10 0 rfl) $$ [HO0 HD HO]
  · isplitl [HO0]; · iexact HO0
    isplitl [HD]; · iexact HD
    iexact HO
  iintro ⟨HD, HO0, HO⟩
  iapply (drain m c 11 1 rfl) $$ [HO1 HD HO]
  · isplitl [HO1]; · iexact HO1
    isplitl [HD]; · iexact HD
    iexact HO
  iintro ⟨HD, HO1, HO⟩
  iapply (wait_keep m c) $$ [HK HO]
  · isplitl [HK] <;> iassumption
  iintro ⟨Hok, HxK, HK, HO⟩
  ihave HE' := (end_start m K c) $$ [HsP HS HO]
  · isplitr; · iexact HE
    isplitl [HsP]; · iexact HsP
    isplitl [HS]; · iexact HS
    iexact HO
  iapply (wait_send m K c 0 rfl) $$ [HE']
  · iexact HE'
  iintro HE'
  iapply (wait_send m K c 1 rfl) $$ [HE']
  · iexact HE'
  iintro HE'
  iapply (wait_send m K c 2 rfl) $$ [HE']
  · iexact HE'
  iintro HE'
  iapply (wait_send m K c 3 rfl) $$ [HE']
  · iexact HE'
  iintro HE'
  iapply (wait_send m K c 4 rfl) $$ [HE']
  · iexact HE'
  iintro HE'
  iapply (wait_send m K c 5 rfl) $$ [HE']
  · iexact HE'
  iintro HE'
  iapply (wait_send m K c 6 rfl) $$ [HE']
  · iexact HE'
  iintro HE'
  iapply (wait_send m K c 7 rfl) $$ [HE']
  · iexact HE'
  iintro HE'
  iapply (wait_send m K c 8 rfl) $$ [HE']
  · iexact HE'
  iintro HE'
  iapply (wait_send m K c 9 rfl) $$ [HE']
  · iexact HE'
  iintro HE'
  iapply (wait_send m K c 10 rfl) $$ [HE']
  · iexact HE'
  iintro HE'
  iapply (wait_send m K c 11 rfl) $$ [HE']
  · iexact HE'
  iintro HE'
  unfold run
  rw [wp_ret]
  imodintro
  iapply Hk
  ihave HE' := (end_done m K c) $$ [HE']
  · iexact HE'
  icases HE' with ⟨Hvs, HsS, HO⟩
  unfold bodyOut memOut scratch localSems cellSems idleA idleO
  icases HA0 with ⟨Hva0, -, HA0⟩
  icases HA1 with ⟨Hva1, -, HA1⟩
  icases HO0 with ⟨Hvo0, HO0⟩
  icases HO1 with ⟨Hvo1, HO1⟩
  isplitl [HxK HD Hok]
  · isplitl [HxK]; · iexact HxK
    iapply (o_join m c)
    isplitl [HD]
    · iapply (Entails.of_eq (done_end (outR m c)))
      iexact HD
    iexact Hok
  isplitl [Hvs Hva0 Hva1 Hvb Hvo0 Hvo1]
  · isplitl [Hvs]; · iapply (vs_join c (vsVal m c)) $$ Hvs
    isplitl [Hva0 Hva1]
    · iapply (va_join c (vaVal m c 0))
      isplitl [Hva0] <;> iassumption
    isplitl [Hvb]; · iapply (Entails.of_eq (vb_eq c).symm) $$ Hvb
    iapply (vo_join c (voVal m c 0))
    isplitl [Hvo0] <;> iassumption
  isplitl [HK HA0 HA1 HB HO0 HO1]
  · isplitl [HK]; · iexact HK
    isplitl [HA0]; · iexact HA0
    isplitl [HA1]; · iexact HA1
    isplitl [HB]; · iexact HB
    isplitl [HO0] <;> iassumption
  isplitl [HsS HsR]
  · isplitl [HsS] <;> iassumption
  isplitl [Hbar] <;> iassumption

end Cert.KernelIdeal.AllToAll

end
-- ==== Proof.Ideal.Launch.lean ====
/-
# The launch

What the launch deals to each device — its memory, its counters, the marks and the duty tokens of its cells, its credit —
is rearranged into what the body starts from: the tokens go to the devices that pay the duties. What the body leaves is
read off the final memory.
-/
module

public import proofs.«01_k».proof.Proof.Ideal.Run
public import Idealize.ShloMosaic.Lib.Quiescent
public import Idealize.ShloMosaic.Lib.Pipeline.CollectiveSegs

@[expose] public section

noncomputable section

namespace Cert.KernelIdeal.AllToAll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores, and the cells among them -/

/-- The semaphores of the local copies. -/
abbrev localS : Fin 6 → DmaSem sig := ![keepS, aS 0, aS 1, bS, oS 0, oS 1]

/-- All of the kernel's own: local, send, receive. -/
abbrev osem : Fin 6 ⊕ (Fin 12 ⊕ Fin 12) → SemLoc sig
  | .inl k => .dma (localS k)
  | .inr (.inl i) => .dma (sendS i)
  | .inr (.inr i) => .dma (recvS i)

theorem ownSemFacts : Pipeline.OwnSemFacts cfg0.spec osem := by decide +kernel

theorem csem_injective : Function.Injective csem := by decide +kernel

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

def ringCells : Finset (GSem nD τ sig) := Finset.univ.map ⟨kcell, kcell_injective⟩

/-- The duties of a device's cells: three on its barrier cell, one on each send and each receive cell. -/
abbrev Duty : Type := Fin 3 ⊕ (Fin 12 ⊕ Fin 12)
abbrev dutyAt : Duty → SemLoc sig × Fin 3
  | .inl j => (.reg barS, j)
  | .inr (.inl i) => (.dma (sendS i), 0)
  | .inr (.inr i) => (.dma (recvS i), 0)

theorem dutyAt_injective : Function.Injective dutyAt := by decide +kernel

abbrev tokOf (p : Dev nD × Duty) : GSem nD τ sig × ℕ × Fin 3 := (((p.1 : Thread nD τ), (dutyAt p.2).1), 0, (dutyAt p.2).2)

theorem tokOf_injective : Function.Injective tokOf := by
  rintro ⟨c, k⟩ ⟨c', k'⟩ h
  have h1 : c = c' := congrArg (fun x : GSem nD τ sig × ℕ × Fin 3 => x.1.1.1) h
  have h2 : k = k' := dutyAt_injective (congrArg (fun x : GSem nD τ sig × ℕ × Fin 3 => (x.1.2, x.2.2)) h)
  rw [h1, h2]

def ringToks : Finset (GSem nD τ sig × ℕ × Fin 3) := Finset.univ.map ⟨tokOf, tokOf_injective⟩

def u₀ : UU :=
  (initOf (Pipeline.cells cfgs cellOf_inj) (Pipeline.launchToks cfgs cellOf_inj), (initOf ringCells ringToks, (1 : Counters)))

/-! ## Sums over the cells -/

theorem cells_eq (Φ : CK → sProp 𝕄) : bigSep Finset.univ Φ
    = iprop(Φ none ∗ (bigSep Finset.univ fun i => Φ (some (false, i))) ∗ bigSep Finset.univ fun i => Φ (some (true, i))) := by
  have h : bigSep (Finset.univ.erase (none : CK)) Φ = bigSep Finset.univ fun p : Bool × Fin 12 => Φ (some p) := by
    rw [show Finset.univ.erase (none : CK) = Finset.univ.map ⟨some, Option.some_injective _⟩ from by decide, bigSep_map]; rfl
  rw [bigSep_univ_at Φ none, h, bigSep_univ_prod, bigSep_univ_eq_bigSepL [false, true] (by decide) (by decide)]
  rfl

theorem sums_eq {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ

/-- Dealing along rearrangements of the devices, one per index. -/
theorem deal {I : Type} [Fintype I] [DecidableEq I] (e : I → Dev nD ≃ Dev nD) (T : Dev nD → I → sProp 𝕄) :
    (bigSep Finset.univ fun c : Dev nD => bigSep Finset.univ fun i => T c i) = bigSep Finset.univ fun c : Dev nD => bigSep Finset.univ fun i => T (e i c) i := by
  let E : Dev nD × I ≃ Dev nD × I :=
    { toFun := fun p => (e p.2 p.1, p.2), invFun := fun p => ((e p.2).symm p.1, p.2)
      left_inv := fun p => by simp, right_inv := fun p => by simp }
  have h1 := bigSep_univ_prod (fun p : Dev nD × I => T p.1 p.2)
  have h2 := bigSep_univ_equiv E (fun p : Dev nD × I => T p.1 p.2)
  have h3 := bigSep_univ_prod (fun p : Dev nD × I => T (e p.2 p.1) p.2)
  exact h1.symm.trans (h2.trans h3)

/-! ## What each device starts from and ends with -/

/-- The cells' invariants and marks, without the levels. -/
def records (K : Dev nD × CK → ℕ) : sProp 𝕄 :=
  iprop((bigSep Finset.univ fun p : Dev nD × CK => cellInv ER (ringRd m) (K p) (kcell p))
    ∗ bigSep Finset.univ fun p : Dev nD × CK => reached ER (kcell p) 0)

instance records_persistent (K : Dev nD × CK → ℕ) : BI.Persistent (records (F := F) m K) := by unfold records; infer_instance

theorem env_intro (K : Dev nD × CK → ℕ) : iprop(records (F := F) m K ∗ levAts L lv) ⊢ env m K := by
  unfold records env
  iintro ⟨⟨HI, HR⟩, HL⟩
  isplitl [HI]; · iexact HI
  isplitl [HR] <;> iassumption

/-- The protocol's part of what a device starts from, with its memory outside the kernel. -/
def start (c : Dev nD) : sProp 𝕄 :=
  iprop((∃ K, env m K) ∗ ghost c ∗ cred (tallyAt (barCell c) () 3) ∗ credR c ∗ (xTok m c fullShare ∗ some' c main_v1_0 ∗ some' c main_v1_1) ∗ localSems c)

def Φ₀ (c : Dev nD) : sProp 𝕄 := iprop(start m c ∗ scratch c)
def Φ₁ (c : Dev nD) : sProp 𝕄 := iprop(memOut m c ∗ scratch c ∗ localSems c ∗ cellSems c ∗ semVal (barCell c) 0)

def dats (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem no_windows (Φ : Fin cfg0.W → sProp 𝕄) : bigSep Finset.univ Φ = iprop(emp) := bigSep_empty

set_option maxRecDepth 100000 in
theorem body_obligation (c : Dev nD) : BodyObligationLoose (dats (F := F) m 0 c) (defs₀ (F := F)) 𝒱₀ () Set.univ := fun t => by
  rw [fin_N0 t, no_windows, no_windows]
  show iprop(Φ₀ m c ∗ (dats m 0 c).owesAt () t0_0.castSucc ∗ emp)
    ⊢ wp frame (wpE (defs₀ (F := F)) 𝒱₀ (c : Thread nD τ) none) Set.univ (bodyAt0 (F := F) t0_0)
      (fun _ => iprop(Φ₁ m c ∗ (dats m 0 c).owesAt () t0_0.succ ∗ emp))
  unfold Φ₀ start
  iintro ⟨⟨⟨⟨%K, HE⟩, Hg, Hcb, Hcr, ⟨Hx, Ho, Hr⟩, Hl⟩, Hs⟩, HO, -⟩
  unfold Dat.owesAt Pipeline.owesWithin
  icases HO with ⟨%W, %hW, HO⟩
  iapply (sound_body m K c t0_0)
  isplitl [HE Hg Hcb Hcr Hx Ho Hr Hl Hs HO]
  · unfold bodyIn memIn
    isplitl [HE]; · iexact HE
    isplitl [Hg]; · iexact Hg
    isplitl [Hcb]; · iexact Hcb
    isplitl [Hcr]; · iexact Hcr
    isplitl [Hx Ho Hr Hs]
    · isplitl [Hx]; · iexact Hx
      isplitl [Ho]; · iexact Ho
      isplitl [Hr] <;> iassumption
    isplitl [Hl]; · iexact Hl
    iexists W; iexact HO
  · unfold bodyOut Φ₁
    iintro ⟨Hm, Hs, Hl, Hc, Hb, ⟨%W', HO⟩⟩
    isplitl [Hm Hs Hl Hc Hb]
    · isplitl [Hm]; · iexact Hm
      isplitl [Hs]; · iexact Hs
      isplitl [Hl]; · iexact Hl
      isplitl [Hc] <;> iassumption
    isplitl [HO]
    · iexists W'
      isplitr; · ipureintro; exact fun _ _ => Or.inl trivial
      iexact HO
    iempintro

/-! ## The protocol's marks and tokens -/

/-- The duty tokens of device `c`'s own cells. -/
def toks (c : Dev nD) : sProp 𝕄 :=
  iprop((bigSep Finset.univ fun j : Fin 3 => dutyTok ER (barCell c) 0 j) ∗ (bigSep Finset.univ fun i : Fin 12 => dutyTok ER (sendCell c i) 0 0)
    ∗ bigSep Finset.univ fun i : Fin 12 => dutyTok ER (recvCell c i) 0 0)

/-- What the launch element deals device `c`. -/
def G (c : Dev nD) : sProp 𝕄 :=
  iprop((bigSep Finset.univ fun k : CK => roundState ER (ringRd m) (kcell (c, k)) 0)
    ∗ (bigSep Finset.univ fun k : CK => iprop(atPos ER (kcell (c, k)) 0 ∅ 0 ∗ reached ER (kcell (c, k)) 0)) ∗ toks c)

/-- What the exchange among the devices makes of it. -/
def G' (c : Dev nD) : sProp 𝕄 := iprop((∃ K, records m K) ∗ ghost c ∗ localSems c)

theorem fund_ring : BI.own (ER (initOf ringCells ringToks)) ⊢ (|==> bigSep Finset.univ (G (F := F) m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [sums_eq, sums_eq]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(localSems c ∗ cellSems c) := by
  unfold Pipeline.ownSems0
  rw [sums_eq, sums_eq, bigSep_univ_eq_bigSepL [0, 1, 2, 3, 4, 5] (by decide) (by decide)]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_split (c : Dev nD) :
    iprop(Pipeline.ownSems0 (Ix := Unit) (Name := ℕ) (U := UU) (Lvl := ℕ) (Val := Elt F) (τ := τ) osem c ∗ unscopedSems0 c)
      ⊢ iprop((bigSep Finset.univ fun k : CK => semVal (kcell (c, k)) 0) ∗ localSems c : sProp 𝕄) := by
  rw [ownSems0_eq, unscopedSems0_eq, cells_eq]
  unfold cellSems
  iintro ⟨⟨Hl, HS, HR⟩, HB⟩
  isplitl [HB HS HR]
  · isplitl [HB]; · iexact HB
    isplitl [HS] <;> iassumption
  iexact Hl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c ∗ localSems c) := by
  have halloc : iprop((bigSep Finset.univ fun k : CK => semVal (kcell (c, k)) 0) ∗ bigSep Finset.univ fun k : CK => roundState ER (ringRd m) (kcell (c, k)) 0)
      ⊢ (|={Set.univ}=> bigSep Finset.univ fun k => iprop(∃ κ : ℕ, cellInv ER (ringRd m) κ (kcell (c, k))) : sProp 𝕄) := by
    rw [← bigSep_sep']
    exact (bigSep_mono fun k _ => (Rounds.body_intro ER (ringRd m) (kcell (c, k))).trans inv_alloc).trans (bigSep_fupd _ _)
  unfold G
  iintro ⟨Hos, Hus, Hst, Hat, Htok⟩
  ihave Hv := (sems0_split (F := F) c) $$ [Hos Hus]
  · isplitl [Hos] <;> iassumption
  icases Hv with ⟨Hv, Hl⟩
  imod halloc $$ [Hv Hst] with Hinv
  · isplitl [Hv] <;> iassumption
  imodintro
  isplitl [Hinv]; · iexact Hinv
  isplitl [Hat]; · iexact Hat
  isplitl [Htok] <;> iassumption

/-- The tokens go to the devices that pay the duties. -/
theorem toks_deal : (bigSep Finset.univ fun c : Dev nD => (toks c : sProp 𝕄)) ⊢ bigSep Finset.univ fun c : Dev nD => iprop(tokB c ∗ tokS c ∗ tokR c) := by
  unfold toks
  rw [bigSep_sep', bigSep_sep', bigSep_sep', bigSep_sep',
    deal (fun j : Fin 3 => shift ⟨3 - j.val, by omega⟩) (fun c j => (dutyTok ER (barCell c) 0 j : sProp 𝕄)),
    deal (fun i : Fin 12 => shift ⟨i.val % 3 + 1, by omega⟩) (fun c i => (dutyTok ER (recvCell c i) 0 0 : sProp 𝕄))]
  exact Entails.of_eq rfl

theorem positions_eq (c : Dev nD) : (bigSep Finset.univ fun k : CK => (atPos ER (kcell (c, k)) 0 ∅ 0 : sProp 𝕄))
    = iprop(atPos ER (barCell c) 0 ∅ 0 ∗ sendP c ∗ recvP c) := cells_eq _

theorem ghost_eq (c : Dev nD) : iprop((bigSep Finset.univ fun k : CK => (atPos ER (kcell (c, k)) 0 ∅ 0 : sProp 𝕄)) ∗ tokB c ∗ tokS c ∗ tokR c) ⊢ ghost c := by
  rw [positions_eq]
  unfold ghost
  iintro ⟨⟨HB, HS, HR⟩, H⟩
  isplitl [HB]; · iexact HB
  isplitl [HS]; · iexact HS
  isplitl [HR]; · iexact HR
  iexact H

theorem share_records {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c ∗ localSems c) : sProp 𝕄)
      ⊢ bigSep Finset.univ (G' (F := F) m) := by
  rw [bigSep_sep', bigSep_sep', bigSep_sep', ← bigSep_univ_prod (fun p : Dev nD × CK => iprop(∃ κ : ℕ, cellInv ER (ringRd m) κ (kcell p))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun p : Dev nD × CK => (reached ER (kcell p) 0 : sProp 𝕄))]
  iintro ⟨HI, ⟨Hat, #HR⟩, Htok, Hl⟩
  ihave HK := (BI.bigSep_exists_pi Finset.univ (fun (p : Dev nD × CK) (κ : ℕ) => (cellInv ER (ringRd m) κ (kcell p) : sProp 𝕄))) $$ HI
  icases HK with ⟨%K, #HI⟩
  ihave Htk := (toks_deal (F := F)) $$ Htok
  iapply (share_records (R := records m K)
    (Φ := fun c => iprop(((bigSep Finset.univ fun k : CK => atPos ER (kcell (c, k)) 0 ∅ 0) ∗ tokB c ∗ tokS c ∗ tokR c) ∗ localSems c)) fun c => by
      unfold G'
      iintro ⟨HR, HG, HL⟩
      isplitl [HR]; · iexists K; iexact HR
      isplitl [HG]; · iapply (ghost_eq (F := F) c) $$ HG
      iexact HL)
  isplitr
  · unfold records; isplitl; · iexact HI
    iexact HR
  · iapply (Entails.of_eq (show iprop(((bigSep Finset.univ fun c : Dev nD => bigSep Finset.univ fun k : CK => (atPos ER (kcell (c, k)) 0 ∅ 0 : sProp 𝕄))
        ∗ bigSep Finset.univ fun c : Dev nD => iprop(tokB c ∗ tokS c ∗ tokR c)) ∗ bigSep Finset.univ fun c : Dev nD => localSems c) = _ by
      rw [← bigSep_sep', ← bigSep_sep']))
    isplitl [Hat Htk]
    · isplitl [Hat] <;> iassumption
    iexact Hl

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- If every device owes `k` units on one cell of the device that `e` sends it to, every device has credit for `k` units there. -/
theorem cred_deal (e : Dev nD ≃ Dev nD) (sm : SemLoc sig) (k : ℕ) (c : Dev nD) :
    (Pipeline.launchCred (fun d => tallyAt ((e d : Thread nD τ), sm) () k) c : sProp 𝕄) ⊢ cred (tallyAt ((c : Thread nD τ), sm) () k) := by
  have h : tallyOn ((c : Thread nD τ), sm) (launchCredit (Pipeline.owing fun d : Dev nD => (tallyAt ((e d : Thread nD τ), sm) () k : CellTallies nD τ sig Unit)) 0 ((c : Thread nD τ), sm))
      = tallyAt ((c : Thread nD τ), sm) () k := by
    unfold tallyAt; refine congrArg _ (Finsupp.ext fun u => ?_); cases u
    rw [Pipeline.launchCredit_owing, Finsupp.single_eq_same, Finset.sum_eq_single (e.symm c)]
    · rw [e.apply_symm_apply]
      exact (tallyAt_apply ..).trans (if_pos ⟨rfl, rfl⟩)
    · intro d _ hd
      refine (tallyAt_apply ..).trans (if_neg fun h => hd ?_)
      have h1 : c = e d := congrArg (fun g : GSem nD τ sig => g.1.1) h.1
      rw [h1, e.symm_apply_apply]
    · exact fun h => absurd (Finset.mem_univ _) h
  exact (Pipeline.launchCred_elim _ c sm).trans (Entails.of_eq (by rw [h]))

theorem credR_deal (c : Dev nD) : (Pipeline.launchCred (fun d => owedR d 0) c : sProp 𝕄) ⊢ credR c := by
  have h : (fun d : Dev nD => owedR d 0) = fun d => ∑ i : Fin 12, tallyAt (recvCell (peer d (i.val % 3 + 1)) i) () N := by
    funext d; unfold owedR; rw [Finset.filter_true_of_mem fun i _ => Nat.zero_le _]
  rw [h, Pipeline.launchCred_sum]
  unfold credR
  exact bigSep_mono fun i _ => cred_deal (shift ⟨i.val % 3 + 1, by omega⟩) (.dma (recvS i)) N c

theorem credB_deal (k : Fin 4) (c : Dev nD) : (Pipeline.launchCred (fun d => owedB d k.val) c : sProp 𝕄) ⊢ cred (tallyAt (barCell c) () 1) :=
  cred_deal (shift k) (.reg barS) 1 c

theorem cred_three (c : Dev nD) :
    iprop(cred (tallyAt (barCell c) () 1) ∗ cred (tallyAt (barCell c) () 1) ∗ cred (tallyAt (barCell c) () 1)) ⊢ (cred (tallyAt (barCell c) () 3) : sProp 𝕄) := by
  have h : (tallyAt (barCell c) () 3 : CellTallies nD τ sig Unit) = tallyAt (barCell c) () 1 + (tallyAt (barCell c) () 1 + tallyAt (barCell c) () 1) := by
    unfold tallyAt
    rw [← tallyOn_add, ← tallyOn_add, ← Finsupp.single_add, ← Finsupp.single_add]
    rfl
  rw [h]
  exact (sep_mono_right (cred_add _ _).2).trans (cred_add _ _).2

theorem creds (c : Dev nD) : (Pipeline.launchCred O₀ c : sProp 𝕄) ⊢ iprop(cred (tallyAt (barCell c) () 3) ∗ credR c) := by
  have h : (Pipeline.launchCred O₀ c : sProp 𝕄) = iprop(((Pipeline.launchCred (fun d => owedR d 0) c ∗ Pipeline.launchCred (fun d => owedB d 3) c)
      ∗ Pipeline.launchCred (fun d => owedB d 2) c) ∗ Pipeline.launchCred (fun d => owedB d 1) c) := by
    rw [← Pipeline.launchCred_add, ← Pipeline.launchCred_add, ← Pipeline.launchCred_add]; rfl
  rw [h]
  iintro ⟨⟨⟨HR, H3⟩, H2⟩, H1⟩
  ihave HR := (credR_deal (F := F) c) $$ HR
  ihave H3 := (credB_deal (F := F) 3 c) $$ [H3]
  · iexact H3
  ihave H2 := (credB_deal (F := F) 2 c) $$ [H2]
  · iexact H2
  ihave H1 := (credB_deal (F := F) 1 c) $$ [H1]
  · iexact H1
  isplitr [HR]
  · iapply (cred_three (F := F) c)
    isplitl [H1]; · iexact H1
    isplitl [H2] <;> iassumption
  iexact HR

/-! ## Into the run and out of it -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G'
  iintro ⟨⟨Hx, Ho, Hr⟩, HL, Hcr, -, ⟨%K, HK⟩, Hg, Hl⟩
  ihave Hc := (creds (F := F) c) $$ Hcr
  icases Hc with ⟨HB, HR⟩
  imodintro
  isplitl
  · isplitl [HK HL]
    · iexists K
      iapply (env_intro m K)
      isplitl [HK] <;> iassumption
    isplitl [Hg]; · iexact Hg
    isplitl [HB]; · iexact HB
    isplitl [HR]; · iexact HR
    isplitl [Hx Ho Hr]
    · isplitl [Hx]; · unfold xTok; iexact Hx
      unfold some'
      isplitl [Ho]
      · iexists _; iexact Ho
      iexists _; iexact Hr
    iexact Hl
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch some'
  iintro ⟨Hs, -, Hr⟩
  isplitl [Hs] <;> iassumption

theorem phi1_exit (c : Dev nD) :
    (dats m 0 c).Φ (Fin.last cfg0.N) ⊢ iprop((unscopedSems0 c ∗ memOut m c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ scratch some'
  iintro ⟨Hm, Hs, Hl, Hc, Hb⟩
  isplitl [Hb Hm]
  · isplitl [Hb] <;> iassumption
  isplitl [Hl Hc]
  · isplitl [Hl] <;> iassumption
  iexact Hs

theorem waits (c : Dev nD) : (levAts L lv : sProp 𝕄) ⊢ Pipeline.cellsWaits cfgs (dats m) () 0 c :=
  Pipeline.cellsWaits_intro cfgs (dats m) () 0 c fun w => w.elim0

/-- What one owned buffer tells of the memory. -/
theorem read_one (ℓ : Loc nD τ sig) (q : PosShare TreeShare) (f : Buf (Elt F) ℓ) (s' : Phys nD τ sig (Elt F)) :
    iprop((ℓ ↦{q} f) ∗ SI s') ⊢ (iprop(⌜s'.mem.mem ℓ = f⌝ ∗ SI s') : sProp 𝕄) := by
  have h := pointsTo_read_all (Ix := Unit) (Name := ℕ) (U := UU) (Lvl := ℕ) ({()} : Finset Unit) (fun _ => ℓ) (fun _ => f) s' q
  rw [bigSep_singleton] at h
  refine h.trans (sep_mono_left (BI.pure_mono fun h => h () (Finset.mem_singleton_self _)))

/-- What the run leaves of device `c`: its unscoped counters at zero, its argument as it was, its result. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_v1_0) = oVal m c

theorem read_out (c : Dev nD) (s' : Phys nD τ sig (Elt F)) :
    iprop((unscopedSems0 c ∗ memOut m c) ∗ emp ∗ SI s') ⊢ (|={Set.univ}=> iprop(⌜QY m c s'.mem⌝ ∗ SI s') : sProp 𝕄) := by
  unfold memOut xTok
  iintro ⟨⟨Hu, Hx, Ho⟩, -, HSI⟩
  ihave H := (read_one (F := F) _ _ _ s') $$ [Hx HSI]
  · isplitl [Hx] <;> iassumption
  icases H with ⟨%hx, HSI⟩
  ihave H := (read_one (F := F) _ _ _ s') $$ [Ho HSI]
  · isplitl [Ho] <;> iassumption
  icases H with ⟨%ho, HSI⟩
  imod (Pipeline.unscopedSems0_read (X := unscopedSems0 c) (c := c) fupd_intro s') $$ [Hu HSI] with ⟨%hu, HSI⟩
  · isplitl [Hu] <;> iassumption
  imodintro
  isplitr
  · ipureintro; exact ⟨hu, hx, ho⟩
  iexact HSI

set_option maxRecDepth 8000 in
/-- On the 32 devices, for any float values and from any memory with zero counters: every weakly fair execution of the
    kernel terminates, and in every final state each device's argument is as it was, its result is what `oVal` says, and every
    semaphore counter is zero. -/
theorem run_main : θ_run defs (onTc (τ := τ) (main (F := F))) (s₀ m ρ) (fun r =>
    (∀ c : Dev nD, r.2.mem ((c : Thread nD τ).loc main_arg0) = m ((c : Thread nD τ).loc main_arg0) ∧ r.2.mem ((c : Thread nD τ).loc main_v1_0) = oVal m c)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb embR (initOf ringCells ringToks) (1 : Counters)) $$ HX
      icases HX with ⟨HX, -⟩
      imod (fund_ring m) $$ [HX] with HG
      · unfold ER; iexact HX
      imodintro
      isplitl [HP] <;> iassumption)
    (hglob := glob m)
    (hA := fun _ w => w.elim0) (hpf := fun _ k => k.elim0)
    (X := start m) (Y := fun c => iprop(unscopedSems0 c ∗ memOut m c)) (Z := fun _ => iprop(emp))
    (hX := start_intro m ρ) (hin := phi0_intro m) (hout := phi1_exit m)
    (QY := QY m) (hY := read_out m)
    (hQ := fun _ h hs => ⟨fun c => (h c).2.2.2, sem_eq_zero hs fun c => (h c).2.2.1⟩)

end Cert.KernelIdeal.AllToAll

end
-- ==== Proof.Value.lean ====
/-
# The result, against the whole array

Over exact numbers narrowing and widening change nothing, so a device's result is one column block of the whole array: its
row block `y` is the one that the device at coordinate `y` holds.
-/
module

public import proofs.«01_k».proof.Defs
public import proofs.«01_k».proof.Proof.Ideal.Base
public import proofs.«01_k».proof.Proof.Gen.ReferenceIdeal
public import Idealize.ShloMosaic.Lib.StableHlo.Run
public import Idealize.ShloMosaic.Lib.Quiescent

@[expose] public section

noncomputable section

namespace Cert.KernelIdeal.AllToAll

open Cert.KernelIdeal Cert.KernelIdeal.Gen
open Idealize.ShloMosaic
open Idealize.ShloMosaic.TcCoe
open Idealize.ShloMosaic.ValueIdx (ix2 ix3)

variable (m : (ℓ : Loc nD τ sig) → Buf (Elt Ideal) ℓ)

/-- The whole array, of which every device holds the row block that its coordinate along `y` names. -/
abbrev Whole : Type := (⟨2, ![16384, 4096]⟩ : Shape).Idx → Elt Ideal .f32

/-- Each device's argument is its row block of `A`. -/
def Blocks (A : Whole) : Prop :=
  ∀ c : Dev nD, m ((c.tc : Thread nD τ).loc main_arg0)
    = Layout.blockN ⟨2, ![4096, 4096]⟩ ⟨2, ![16384, 4096]⟩ (Layout.meshBlock [2, 4, 4] ![[1], []] c) A

/-- An element of a device's argument, as an element of the whole array. -/
theorem xAt_whole {A : Whole} (hA : Blocks m A) (d : Dev nD) (y : ℕ) (r : Fin 4096) (q : Fin 1024) (i : (⟨2, ![16384, 4096]⟩ : Shape).Idx)
    (h0 : (i 0).val = 4096 * yOf d + r.val) (h1 : (i 1).val = 1024 * (y % 4) + q.val) : xAt m d y r q = A i := by
  unfold xAt xv
  refine (congrFun (hA d) _).trans ?_
  rw [Layout.blockN_apply]
  refine congrArg A (funext (Fin.forall_fin_two.mpr ⟨Fin.ext ?_, Fin.ext ?_⟩))
  · show (d.val / 4 % 4 * 1 + 0) * 4096 + r.val = (i 0).val
    rw [h0]; unfold yOf; omega
  · show 0 * 4096 + (1024 * (y % 4) + q.val) = (i 1).val
    rw [h1]; omega

/-- The result of every device is its column block of the whole array. -/
theorem oVal_whole {A : Whole} (hA : Blocks m A) (c : Dev nD) :
    oVal m c = Layout.blockN ⟨2, ![16384, 1024]⟩ ⟨2, ![16384, 4096]⟩ (Layout.meshBlock [2, 4, 4] ![[], [1]] c) A := by
  funext x
  have hx : (x 0).val < 16384 := (x 0).isLt
  have hy := yOf_lt c
  have hrow (h : Layout.TilesN ⟨2, ![16384, 1024]⟩ ⟨2, ![16384, 4096]⟩ _) :
      (h.idx (Layout.meshBlock [2, 4, 4] ![[], [1]] c) x 0).val = (x 0).val := by
    show 0 * 16384 + (x 0).val = (x 0).val
    omega
  have hcol (h : Layout.TilesN ⟨2, ![16384, 1024]⟩ ⟨2, ![16384, 4096]⟩ _) :
      (h.idx (Layout.meshBlock [2, 4, 4] ![[], [1]] c) x 1).val = 1024 * (yOf c % 4) + (x 1).val := by
    show (c.val / 4 % 4 * 1 + 0) * 1024 + (x 1).val = 1024 * (yOf c % 4) + (x 1).val
    unfold yOf; omega
  rw [Layout.blockN_apply]
  unfold oVal
  split
  · next h =>
    refine xAt_whole m hA c _ _ _ _ ((hrow _).trans ?_) (hcol _)
    show (x 0).val = 4096 * yOf c + (x 0).val % 4096
    omega
  · next h =>
    refine xAt_whole m hA _ _ _ _ _ ((hrow _).trans ?_) (hcol _)
    rw [yOf_peer]
    show (x 0).val = 4096 * ((yOf c + ((x 0).val / 4096 + 4 - yOf c)) % 4) + (x 0).val % 4096
    omega

end Cert.KernelIdeal.AllToAll

namespace Cert.ReferenceIdeal.Whole

open Cert.ReferenceIdeal Cert.ReferenceIdeal.Gen
open Idealize.ShloMosaic Idealize.ShloMosaic.TcCoe Idealize.ShloMosaic.StableHlo Idealize.SL.Sem

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- The reference returns its argument: it runs, leaves the argument as it was, and has no semaphore. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => h c main_arg0, sem_eq_zero_of_no_sems rfl r.2⟩)
    (run_seq scopedRefs_eq scopedSems_eq defs main (fun _ => []) (fun _ => rfl) (fun _ => trivial) m ρ)

end Cert.ReferenceIdeal.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Bits.Launch
public import proofs.«01_k».proof.Proof.Ideal.Launch
public import proofs.«01_k».proof.Proof.Value
public import Idealize.ShloMosaic.Adequacy
public import Idealize.ShloMosaic.Init

@[expose] public section

noncomputable section

namespace Cert.Proof

open Idealize.ShloMosaic Idealize.SL.Sem

/-- The kernel as printed runs, leaves its argument as it was and its counters at zero. -/
theorem frame_kernel : Cert.quiescent_Kernel := fun m g _ =>
  (θ_run _ _ _).mono (fun _ h => ⟨fun c => (h.1 c).1, h.2⟩) (Cert.Kernel.AllToAll.run_main (F := Bits) m g)

/-- So does the kernel over exact numbers. -/
theorem frame_ideal : Cert.quiescent_KernelIdeal := fun m g _ =>
  (θ_run _ _ _).mono (fun _ h => ⟨fun c => (h.1 c).1, h.2⟩) (Cert.KernelIdeal.AllToAll.run_main (F := Ideal) m g)

/-- So does the reference. -/
theorem frame_reference : Cert.quiescent_ReferenceIdeal := fun m g _ => Cert.ReferenceIdeal.Whole.run (F := Ideal) m g

/-- Every device ends with its column block of the array that the reference returns. -/
theorem value : Cert.algebraic_KernelIdeal_ReferenceIdeal := fun m g m' g' _ hA =>
  ⟨m' (((0 : Dev Cert.ReferenceIdeal.nD).tc : Thread Cert.ReferenceIdeal.nD Cert.ReferenceIdeal.τ).loc Cert.ReferenceIdeal.main_arg0),
    (θ_run _ _ _).mono (fun _ h c => ⟨(h.1 c).2.trans (Cert.KernelIdeal.AllToAll.oVal_whole m hA c), (h.1 c).1⟩)
      (Cert.KernelIdeal.AllToAll.run_main (F := Ideal) m g),
    (θ_run _ _ _).mono (fun _ h => ⟨h.1 0, h.1 0⟩) (Cert.ReferenceIdeal.Whole.run (F := Ideal) m' g')⟩

theorem claim : Cert.Claim := ⟨Cert.Kernel.Gen.facts, Cert.KernelIdeal.Gen.facts, Cert.ReferenceIdeal.Gen.facts,
  frame_kernel, frame_ideal, frame_reference, trivial, value⟩

end Cert.Proof

end
